-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x256 : Shape := ⟨2, ![256, 256]⟩
abbrev S3x512x256 : Shape := ⟨3, ![3, 512, 256]⟩
abbrev S3x3 : Shape := ⟨2, ![3, 3]⟩
abbrev S_ : Shape := ⟨0, ![]⟩
abbrev S176x256 : Shape := ⟨2, ![176, 256]⟩
abbrev S1x176x256 : Shape := ⟨3, ![1, 176, 256]⟩
abbrev S1x1 : Shape := ⟨2, ![1, 1]⟩
abbrev S160x256 : Shape := ⟨2, ![160, 256]⟩
abbrev S1x160x256 : Shape := ⟨3, ![1, 160, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x256, .bf16⟩
  | .hbm, ⟨2, _⟩ => ⟨S512x256, .f32⟩
  | .local _ .vmem, ⟨0, _⟩ => ⟨S512x256, .bf16⟩
  | .local _ .vmem, ⟨1, _⟩ => ⟨S256x256, .bf16⟩
  | .local _ .vmem, ⟨2, _⟩ => ⟨S512x256, .f32⟩
  | .local _ .vmem, ⟨3, _⟩ => ⟨S3x512x256, .bf16⟩
  | .local _ .vmem, ⟨4, _⟩ => ⟨S3x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v18 : BitVec 32 := Scalar.xori v2 c1_i32_14
  let c1_i32_21 : BitVec 32 := 1#32
  let v19 : BitVec 32 := Scalar.muli v18 c1_i32_21
  let v20 : BitVec 32 := Scalar.addi c0_i32_22 v19
  v20.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v34 : BitVec 32 := Scalar.xori v2 c3_i32_31
  let c1_i32_38 : BitVec 32 := 1#32
  let v35 : BitVec 32 := Scalar.muli v34 c1_i32_38
  let v36 : BitVec 32 := Scalar.addi c0_i32_39 v35
  v36.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v50 : BitVec 32 := Scalar.xori v2 c4_i32_47
  let c1_i32_53 : BitVec 32 := 1#32
  let v51 : BitVec 32 := Scalar.muli v50 c1_i32_53
  let v52 : BitVec 32 := Scalar.addi c0_i32_54 v51
  v52.toNat
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_81 : BitVec 32 := 3#32
  let v80 : BitVec 32 := Scalar.xori v2 c3_i32_81
  let c1_i32_88 : BitVec 32 := 1#32
  let v81 : BitVec 32 := Scalar.muli v80 c1_i32_88
  let v82 : BitVec 32 := Scalar.addi c0_i32_89 v81
  v82.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v108 : BitVec 32 := Scalar.xori v2 c4_i32_116
  let c1_i32_123 : BitVec 32 := 1#32
  let v109 : BitVec 32 := Scalar.muli v108 c1_i32_123
  let v110 : BitVec 32 := Scalar.addi c0_i32_124 v109
  v110.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_151 : BitVec 32 := 1#32
  let v136 : BitVec 32 := Scalar.xori v2 c1_i32_151
  let c1_i32_158 : BitVec 32 := 1#32
  let v137 : BitVec 32 := Scalar.muli v136 c1_i32_158
  let v138 : BitVec 32 := Scalar.addi c0_i32_159 v137
  v138.toNat
def k0_dev10 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_185 : BitVec 32 := 4#32
  let v164 : BitVec 32 := Scalar.xori v2 c4_i32_185
  let c1_i32_192 : BitVec 32 := 1#32
  let v165 : BitVec 32 := Scalar.muli v164 c1_i32_192
  let v166 : BitVec 32 := Scalar.addi c0_i32_193 v165
  v166.toNat
def k0_dev11 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_220 : BitVec 32 := 1#32
  let v192 : BitVec 32 := Scalar.xori v2 c1_i32_220
  let c1_i32_227 : BitVec 32 := 1#32
  let v193 : BitVec 32 := Scalar.muli v192 c1_i32_227
  let v194 : BitVec 32 := Scalar.addi c0_i32_228 v193
  v194.toNat
def k0_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_255 : BitVec 32 := 3#32
  let v220 : BitVec 32 := Scalar.xori v2 c3_i32_255
  let c1_i32_262 : BitVec 32 := 1#32
  let v221 : BitVec 32 := Scalar.muli v220 c1_i32_262
  let v222 : BitVec 32 := Scalar.addi c0_i32_263 v221
  v222.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x256 : Shape := ⟨2, ![4096, 256]⟩
abbrev S256x256 : Shape := ⟨2, ![256, 256]⟩
abbrev S8x512x256 : Shape := ⟨3, ![8, 512, 256]⟩
abbrev S_ : Shape := ⟨0, ![]⟩
abbrev S512x256 : Shape := ⟨2, ![512, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x256, .bf16⟩
  | .hbm, ⟨2, _⟩ => ⟨S8x512x256, .bf16⟩
  | .hbm, ⟨3, _⟩ => ⟨S8x512x256, .f32⟩
  | .hbm, ⟨4, _⟩ => ⟨S_, .f32⟩
  | .hbm, ⟨5, _⟩ => ⟨S512x256, .f32⟩
  | .hbm, ⟨6, _⟩ => ⟨S512x256, .bf16⟩
  | .hbm, ⟨7, _⟩ => ⟨S512x256, .f32⟩
  | .hbm, ⟨8, _⟩ => ⟨S512x256, .bf16⟩
  | .hbm, ⟨9, _⟩ => ⟨S512x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Peers.lean ====
/-
  The all-reduce on a cube of eight devices: who exchanges with whom, in which order, through which semaphores.

  Nine exchanges run on every device, numbered `s = 3r + g` : round `r` of row group `g`. In exchange `s` device `c`
  trades row group `g` with the device whose number differs from `c` by one of the three masks 1, 3, 4 (`mask s`), so
  that after three rounds every group has met all three masks.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic Idealize.ShloMosaic.TcCoe

/-! ## Peers -/

/-- The device across mask `i` (1, 3, 4) from `c`. -/
def peer : Fin 3 → Dev nD → Dev nD
  | 0 => ![1, 0, 3, 2, 5, 4, 7, 6]
  | 1 => ![3, 2, 1, 0, 7, 6, 5, 4]
  | 2 => ![4, 5, 6, 7, 0, 1, 2, 3]

theorem peer_peer (i : Fin 3) (c : Dev nD) : peer i (peer i c) = c := by revert i c; decide

/-- Crossing a mask, as a permutation of the devices. -/
def cross (i : Fin 3) : Dev nD ≃ Dev nD := ⟨peer i, peer i, peer_peer i, peer_peer i⟩

theorem peer_eq_iff (i : Fin 3) (c d : Dev nD) : peer i d = c ↔ d = peer i c := by revert i c d; decide

/-! ## The nine exchanges -/

/-- The round of exchange `s`, -/
def rnd (s : Fin 9) : Fin 3 := ⟨s.val / 3, by omega⟩
/-- its row group, -/
def grp (s : Fin 9) : Fin 3 := ⟨s.val % 3, by omega⟩
/-- and the mask it crosses. -/
def mask (s : Fin 9) : Fin 3 := rnd s + grp s

/-- The exchange of mask `i` in row group `g`. -/
def exch : Fin 3 → Fin 3 → Fin 9
  | 0 => ![0, 7, 5]
  | 1 => ![3, 1, 8]
  | 2 => ![6, 4, 2]

theorem mask_exch (i g : Fin 3) : mask (exch i g) = i := by revert i g; decide

/-! ## The device each signal and each copy addresses -/

theorem sig0_dev (c : Dev nD) : (⟨k0_dev1 c, k0_dev1_lt c⟩ : Dev nD) = peer 0 c := by revert c; decide +kernel
theorem sig1_dev (c : Dev nD) : (⟨k0_dev2 c, k0_dev2_lt c⟩ : Dev nD) = peer 1 c := by revert c; decide +kernel
theorem sig2_dev (c : Dev nD) : (⟨k0_dev3 c, k0_dev3_lt c⟩ : Dev nD) = peer 2 c := by revert c; decide +kernel
theorem copy0_dev (c : Dev nD) : (⟨k0_dev4 c, k0_dev4_lt c⟩ : Dev nD) = peer (mask 0) c := by revert c; decide +kernel
theorem copy1_dev (c : Dev nD) : (⟨k0_dev5 c, k0_dev5_lt c⟩ : Dev nD) = peer (mask 1) c := by revert c; decide +kernel
theorem copy2_dev (c : Dev nD) : (⟨k0_dev6 c, k0_dev6_lt c⟩ : Dev nD) = peer (mask 2) c := by revert c; decide +kernel
theorem copy3_dev (c : Dev nD) : (⟨k0_dev7 c, k0_dev7_lt c⟩ : Dev nD) = peer (mask 3) c := by revert c; decide +kernel
theorem copy4_dev (c : Dev nD) : (⟨k0_dev8 c, k0_dev8_lt c⟩ : Dev nD) = peer (mask 4) c := by revert c; decide +kernel
theorem copy5_dev (c : Dev nD) : (⟨k0_dev9 c, k0_dev9_lt c⟩ : Dev nD) = peer (mask 5) c := by revert c; decide +kernel
theorem copy6_dev (c : Dev nD) : (⟨k0_dev10 c, k0_dev10_lt c⟩ : Dev nD) = peer (mask 6) c := by revert c; decide +kernel
theorem copy7_dev (c : Dev nD) : (⟨k0_dev11 c, k0_dev11_lt c⟩ : Dev nD) = peer (mask 7) c := by revert c; decide +kernel
theorem copy8_dev (c : Dev nD) : (⟨k0_dev12 c, k0_dev12_lt c⟩ : Dev nD) = peer (mask 8) c := by revert c; decide +kernel

/-! ## Semaphores and cells -/

/-- The runtime's barrier semaphore; -/
abbrev barS : Sem sig := (SemArray.scalar (sig.barrier 0 rfl) : Sems sig S_).sem
/-- exchange `s`'s send and receive semaphores, each an entry of a 3 by 3 array. -/
def sendS (s : Fin 9) : DmaSem sig := (⟨3 + s.val, by omega⟩ : Fin 21)
def recvS (s : Fin 9) : DmaSem sig := (⟨12 + s.val, by omega⟩ : Fin 21)

abbrev barCell (c : Dev nD) : GSem nD τ sig := ((c : Thread nD τ), .reg barS)
abbrev sendCell (c : Dev nD) (s : Fin 9) : GSem nD τ sig := ((c : Thread nD τ), .dma (sendS s))
abbrev recvCell (c : Dev nD) (s : Fin 9) : GSem nD τ sig := ((c : Thread nD τ), .dma (recvS s))

/-- The exchange a send or receive semaphore belongs to. -/
def exchOf (q : DmaSem sig) : Fin 9 := ⟨((show Fin 21 from q).val + 6) % 9, by omega⟩
/-- Whether a DMA semaphore is one of the nine send semaphores, or of the nine receive semaphores. -/
def isSend (q : DmaSem sig) : Prop := 3 ≤ (show Fin 21 from q).val ∧ (show Fin 21 from q).val < 12
def isRecv (q : DmaSem sig) : Prop := 12 ≤ (show Fin 21 from q).val
instance (q : DmaSem sig) : Decidable (isSend q) := by unfold isSend; infer_instance
instance (q : DmaSem sig) : Decidable (isRecv q) := by unfold isRecv; infer_instance

theorem exchOf_send (s : Fin 9) : exchOf (sendS s) = s := by revert s; decide
theorem exchOf_recv (s : Fin 9) : exchOf (recvS s) = s := by revert s; decide
theorem isSend_send (s : Fin 9) : isSend (sendS s) := by revert s; decide
theorem not_isSend_recv (s : Fin 9) : ¬ isSend (recvS s) := by revert s; decide
theorem isRecv_recv (s : Fin 9) : isRecv (recvS s) := by revert s; decide
theorem not_isRecv_send (s : Fin 9) : ¬ isRecv (sendS s) := by revert s; decide

end Cert.Cube

end
-- ==== Proof.Slots.lean ====
/-
  The two exchange buffers of a device — what it sends, what it receives — have three planes of 512 rows of 256. Exchange
  `s` of round `r` in row group `g` uses the rows of group `g` in plane `r` of each: its SLOT. The nine slots of a buffer
  are disjoint and fill it; the last plane is the slots of exchanges 6, 7, 8.
-/
module

public import proofs.«01_k».proof.Proof.Peers

@[expose] public section

noncomputable section

namespace Cert.Cube

open Cert.KernelIdeal Cert.KernelIdeal.Gen
open Idealize.ShloMosaic Idealize.ShloMosaic.TcCoe

variable {F : FTy → Type} [FloatOps F]

/-- The first row of a group, and how many rows it has. -/
def off : Fin 3 → ℕ := ![0, 176, 352]
def rows : Fin 3 → ℕ := ![176, 176, 160]

theorem slot_inb (s : Fin 9) : ∀ a, (![(rnd s).val, off (grp s), 0] : Fin 3 → ℕ) a + (![1, rows (grp s), 256] : Fin 3 → ℕ) a ≤ S3x512x256.size a := by
  revert s; decide

/-- Exchange `s`'s slot, as a rectangle of an exchange buffer, -/
abbrev slotRect (s : Fin 9) : Rect S3x512x256 := Rect.unit (s := S3x512x256) ![(rnd s).val, off (grp s), 0] ![1, rows (grp s), 256] (slot_inb s)
/-- and its elements. -/
abbrev slotSet (s : Fin 9) : Finset S3x512x256.Idx := (slotRect s).set

theorem mem_slot {s : Fin 9} {i : S3x512x256.Idx} :
    i ∈ slotSet s ↔ ((i 0).val = (rnd s).val) ∧ off (grp s) ≤ (i 1).val ∧ (i 1).val < off (grp s) + rows (grp s) := by
  rw [Rect.mem_set_unit, Fin.forall_fin_succ, Fin.forall_fin_two]
  have h2 : (i 2).val < 256 := (i 2).isLt
  constructor
  · rintro ⟨⟨h, h'⟩, ⟨h1, h1'⟩, -⟩
    exact ⟨Nat.le_antisymm (Nat.le_of_lt_succ h') h, h1, h1'⟩
  · rintro ⟨h, h1, h1'⟩
    exact ⟨⟨h.ge, Nat.lt_succ_of_le h.le⟩, ⟨h1, h1'⟩, Nat.zero_le _, by show (i 2).val < 0 + 256; omega⟩

/-- The group a row belongs to. -/
def groupOf (n : ℕ) : Fin 3 := if n < 176 then 0 else if n < 352 then 1 else 2

theorem groupOf_of_mem {g : Fin 3} {n : ℕ} (h : off g ≤ n) (h' : n < off g + rows g) : groupOf n = g := by
  unfold groupOf
  fin_cases g <;> simp only [off, rows] at h h' <;> simp at h h' <;> split_ifs <;> first | rfl | omega

theorem group_bounds {n : ℕ} (h : n < 512) : off (groupOf n) ≤ n ∧ n < off (groupOf n) + rows (groupOf n) := by
  unfold groupOf
  split_ifs <;> constructor <;> simp [off, rows] <;> omega

theorem eq_of_rnd_grp {s t : Fin 9} (h : rnd s = rnd t) (h' : grp s = grp t) : s = t := by revert s t; decide

/-- The exchange whose slot holds an element. -/
def slotOf (i : S3x512x256.Idx) : Fin 9 := ⟨3 * (i 0).val + (groupOf (i 1).val).val, by have := (i 0).isLt; have : (i 0).val < 3 := this; omega⟩

theorem rnd_slotOf (i : S3x512x256.Idx) : (rnd (slotOf i)).val = (i 0).val := by
  show (3 * (i 0).val + (groupOf (i 1).val).val) / 3 = _; have := (groupOf (i 1).val).isLt; omega
theorem grp_slotOf (i : S3x512x256.Idx) : grp (slotOf i) = groupOf (i 1).val := by
  apply Fin.ext; show (3 * (i 0).val + (groupOf (i 1).val).val) % 3 = _; have := (groupOf (i 1).val).isLt; omega

theorem mem_slotOf (i : S3x512x256.Idx) : i ∈ slotSet (slotOf i) := by
  rw [mem_slot, grp_slotOf, rnd_slotOf]
  exact ⟨rfl, group_bounds (i 1).isLt⟩

theorem slotOf_eq {s : Fin 9} {i : S3x512x256.Idx} (h : i ∈ slotSet s) : slotOf i = s := by
  obtain ⟨h0, h1, h2⟩ := mem_slot.mp h
  exact eq_of_rnd_grp (Fin.ext ((rnd_slotOf i).trans h0)) ((grp_slotOf i).trans (groupOf_of_mem h1 h2))

theorem slot_disjoint {s t : Fin 9} (h : s ≠ t) : Disjoint (slotSet s) (slotSet t) :=
  Finset.disjoint_left.mpr fun i hs ht => h ((slotOf_eq hs).symm.trans (slotOf_eq ht))

theorem slot_cover : (Finset.univ : Finset (Fin 9)).biUnion slotSet = Finset.univ :=
  Finset.eq_univ_iff_forall.mpr fun i => Finset.mem_biUnion.mpr ⟨slotOf i, Finset.mem_univ _, mem_slotOf i⟩

/-- The last plane of an exchange buffer, -/
abbrev topRect : Rect S3x512x256 := Rect.unit (s := S3x512x256) ![2, 0, 0] S1x512x256.size inb_S3x512x256_S1x512x256_2_0_0
/-- as the last round's three slots. -/
abbrev topSet : Finset S3x512x256.Idx := slotSet 6 ∪ (slotSet 7 ∪ slotSet 8)

theorem top_subset : topRect.set ⊆ topSet := fun i hi => by
  have h0 : (i 0).val = 2 := by
    have := Rect.mem_set_unit.mp hi 0
    have h1 : (2 : ℕ) ≤ (i 0).val := this.1
    have h2 : (i 0).val < 3 := (i 0).isLt
    omega
  have hm := mem_slotOf i
  have : slotOf i = 6 ∨ slotOf i = 7 ∨ slotOf i = 8 := by
    have hv : (slotOf i).val = 3 * (i 0).val + (groupOf (i 1).val).val := rfl
    have := (groupOf (i 1).val).isLt
    rcases (by omega : (slotOf i).val = 6 ∨ (slotOf i).val = 7 ∨ (slotOf i).val = 8) with h | h | h
    · exact .inl (Fin.ext h)
    · exact .inr (.inl (Fin.ext h))
    · exact .inr (.inr (Fin.ext h))
  rcases this with h | h | h <;> rw [h] at hm
  · exact Finset.mem_union_left _ hm
  · exact Finset.mem_union_right _ (Finset.mem_union_left _ hm)
  · exact Finset.mem_union_right _ (Finset.mem_union_right _ hm)

/-! ## The memrefs an exchange copies between -/

/-- The contents of an exchange buffer. -/
abbrev Box (F : FTy → Type) : Type := S3x512x256.Idx → Elt F .bf16

abbrev sendB : Memref sig .tc .vmem S3x512x256 .bf16 := Memref.whole cc0_scratch0
abbrev recvB : Memref sig .tc .vmem S3x512x256 .bf16 := Memref.whole cc0_scratch1

/-- A slot with its unit axis dropped: the shape a copy moves. -/
abbrev Flat (s : Fin 9) : Shape := ⟨2, ![rows (grp s), 256]⟩

theorem slot_squeezes (s : Fin 9) : (slotRect s).shape.Squeezes (Flat s) := by
  revert s; decide

abbrev sendM (s : Fin 9) : Memref sig .tc .vmem (Flat s) .bf16 := (sendB.slice (slotRect s) (fun _ => rfl)).squeeze (Flat s) (slot_squeezes s)
abbrev recvM (s : Fin 9) : Memref sig .tc .vmem (Flat s) .bf16 := (recvB.slice (slotRect s) (fun _ => rfl)).squeeze (Flat s) (slot_squeezes s)

theorem sendM_set (s : Fin 9) : (sendM s).view.set = slotSet s :=
  (View.set_reshape _ _).trans (View.set_slice_whole _ _)
theorem recvM_set (s : Fin 9) : (recvM s).view.set = slotSet s :=
  (View.set_reshape _ _).trans (View.set_slice_whole _ _)

/-- The credit of a copy of exchange `s`. -/
def amt (s : Fin 9) : ℕ := (recvM s).view.dmaCredit
theorem amt_pos (s : Fin 9) : 0 < amt s := View.dmaCredit_pos _ (by revert s; decide)
theorem amt_send (s : Fin 9) : (sendM s).view.dmaCredit = amt s := rfl

/-- A copy lands, in the receiver's slot, what the sender's slot held. -/
theorem copied (s : Fin 9) (fd fs : Box F) :
    ∀ i ∈ slotSet s, ((recvM s).view.write (Elt F) fd ((sendM s).view.read (Elt F) fs) Finset.univ : Box F) i = fs i := fun i hi => by
  rw [← recvM_set] at hi
  obtain ⟨x, -, rfl⟩ := Finset.mem_map.mp hi
  exact View.write_emb_of_mem (v := (recvM s).view) (Val := Elt F) fd _ (Finset.mem_univ x)

/-- A store through a slot leaves there what it stored. -/
theorem stored (s : Fin 9) (f g : Box F) (w : (slotRect s).shape.Idx → Elt F .bf16) (h : ∀ x, w x = g ((slotRect s).emb x)) :
    ∀ i ∈ slotSet s, ((sendB.access (slotRect s) : View sig .tc _ _ _).write (Elt F) f w Finset.univ : Box F) i = g i := fun i hi => by
  rw [show slotSet s = _ from (Rect.map_emb_univ (slotRect s)).symm] at hi
  obtain ⟨x, -, rfl⟩ := Finset.mem_map.mp hi
  rw [← h x]
  exact View.write_emb_of_mem (v := (sendB.access (slotRect s) : View sig .tc _ _ _)) (Val := Elt F) f w (Finset.mem_univ x)

theorem send_access_set (s : Fin 9) : (sendB.access (slotRect s) : View sig .tc _ _ _).set = slotSet s := View.set_slice_whole _ _

end Cert.Cube

end
-- ==== Proof.Contents.lean ====
/-
  What the exchange buffers hold, as a function of what every device was given. Before round `r` device `c` has, in row
  group `g`, the sum over the `2^r` devices it has met there so far; in the round it sends that to its peer, receives the
  peer's, and the two added are what it has before the next round.
-/
module

public import proofs.«01_k».proof.Proof.Slots
public import Idealize.ShloMosaic.Lib.Pipeline.Value

@[expose] public section

noncomputable section

namespace Cert.Cube

open Cert.KernelIdeal Cert.KernelIdeal.Gen
open Idealize.ShloMosaic Idealize.ShloMosaic.TcCoe

variable {F : FTy → Type} [FloatOps F]

/-- Every device's block of the first operand. -/
abbrev Tiles (F : FTy → Type) : Type := Dev nD → S512x256.Idx → Elt F .bf16

/-- The sum device `c` has in row group `g` before round `r`. -/
def part (T : Tiles F) (g : Fin 3) : ℕ → Dev nD → S512x256.Idx → Elt F .bf16
  | 0, c, j => T c j
  | r + 1, c, j => FloatOps.addf (F := F) (φ := .bf16) (part T g r c j) (part T g r (peer (Fin.ofNat 3 r + g) c) j)

/-- An element of an exchange buffer, without its plane. -/
def under (i : S3x512x256.Idx) : S512x256.Idx := fun a => (i (Fin.succ a) : Fin _)

/-- What a device's send buffer holds once all its sends are under way: the sum it has before round `r` in plane `r`, -/
def sent (T : Tiles F) (c : Dev nD) : Box F := fun i => part T (grp (slotOf i)) (i 0).val c (under i)
/-- and its receive buffer once all copies to it have landed: its peers' sums. -/
def got (T : Tiles F) (c : Dev nD) : Box F := fun i => sent T (peer (mask (slotOf i)) c) i

theorem got_eq (T : Tiles F) (c : Dev nD) (s : Fin 9) : ∀ i ∈ slotSet s, sent T (peer (mask s) c) i = got T c i := fun i hi => by
  unfold got; rw [slotOf_eq hi]

theorem emb_mem (s : Fin 9) (x : (slotRect s).shape.Idx) : (slotRect s).emb x ∈ slotSet s := by
  rw [show slotSet s = _ from (Rect.map_emb_univ (slotRect s)).symm]; exact Finset.mem_map_of_mem _ (Finset.mem_univ x)

theorem emb_zero (s : Fin 9) (x : (slotRect s).shape.Idx) : ((slotRect s).emb x 0).val = (rnd s).val := (mem_slot.mp (emb_mem s x)).1

theorem sent_emb (T : Tiles F) (c : Dev nD) (s : Fin 9) (x : (slotRect s).shape.Idx) :
    sent T c ((slotRect s).emb x) = part T (grp s) (rnd s).val c (under ((slotRect s).emb x)) := by
  unfold sent; rw [slotOf_eq (emb_mem s x), emb_zero]

theorem got_emb (T : Tiles F) (c : Dev nD) (s : Fin 9) (x : (slotRect s).shape.Idx) :
    got T c ((slotRect s).emb x) = part T (grp s) (rnd s).val (peer (mask s) c) (under ((slotRect s).emb x)) := by
  rw [← got_eq T c s _ (emb_mem s x), sent_emb]

/-- The sum of what exchange `s` sent and received is what the next round's exchange in the same group sends. -/
theorem next_emb (T : Tiles F) (c : Dev nD) (s s' : Fin 9) (hr : (rnd s').val = (rnd s).val + 1) (hg : grp s' = grp s)
    (y : (slotRect s).shape.Idx) (x : (slotRect s').shape.Idx) (hu : under ((slotRect s).emb y) = under ((slotRect s').emb x)) :
    FloatOps.addf (F := F) (φ := .bf16) (sent T c ((slotRect s).emb y)) (got T c ((slotRect s).emb y)) = sent T c ((slotRect s').emb x) := by
  rw [sent_emb, got_emb, sent_emb, hr, hg, hu]
  show _ = FloatOps.addf (F := F) (φ := .bf16) _ (part T (grp s) (rnd s).val (peer (Fin.ofNat 3 (rnd s).val + grp s) c) _)
  have : Fin.ofNat 3 (rnd s).val = rnd s := by apply Fin.ext; exact Nat.mod_eq_of_lt (rnd s).isLt
  rw [this]; rfl

/-- What the first round sends is the device's own block. -/
theorem first_emb (T : Tiles F) (c : Dev nD) (s : Fin 9) (hr : (rnd s).val = 0) (x : (slotRect s).shape.Idx) :
    T c (under ((slotRect s).emb x)) = sent T c ((slotRect s).emb x) := by
  rw [sent_emb, hr]; rfl

/-! ## The values the kernel stores -/

/-- A load of a slot of either buffer. -/
abbrev loadS (f : Box F) (s : Fin 9) : (slotRect s).shape.Idx → Elt F .bf16 := sendB.view.readAt (Elt F) (slotRect s).toLoadRect f
abbrev loadR (f : Box F) (s : Fin 9) : (slotRect s).shape.Idx → Elt F .bf16 := recvB.view.readAt (Elt F) (slotRect s).toLoadRect f

/-- Two slots added with their unit axis dropped, and the axis put back: added entry by entry. -/
theorem add_slots {n : ℕ} (a b : FVec F (⟨3, ![1, n, 256]⟩ : Shape) .bf16)
    (h : (⟨3, ![1, n, 256]⟩ : Shape).ShapeCasts (⟨2, ![n, 256]⟩ : Shape)) (h' : (⟨2, ![n, 256]⟩ : Shape).ShapeCasts (⟨3, ![1, n, 256]⟩ : Shape))
    (x : (⟨3, ![1, n, 256]⟩ : Shape).Idx) :
    shapeCast (⟨3, ![1, n, 256]⟩ : Shape) (addf (shapeCast (⟨2, ![n, 256]⟩ : Shape) a h) (shapeCast (⟨2, ![n, 256]⟩ : Shape) b h)) h' x
      = FloatOps.addf (F := F) (φ := .bf16) (a x) (b x) := by
  show FloatOps.addf _ _ = _
  congr 1
  · exact congrFun (shapeCast_shapeCast a h h') x
  · exact congrFun (shapeCast_shapeCast b h h') x

/-- An entry of a block of rows behind a unit axis, without that axis. -/
def tail {n : ℕ} (x : (⟨3, ![1, n, 256]⟩ : Shape).Idx) : (⟨2, ![n, 256]⟩ : Shape).Idx := fun a => (x (Fin.succ a) : Fin _)

/-- A block of rows put behind a unit axis, entry by entry. -/
theorem lift_rows {n : ℕ} (v : FVec F (⟨2, ![n, 256]⟩ : Shape) .bf16)
    (h : (⟨2, ![n, 256]⟩ : Shape).ShapeCasts (⟨2, ![n, 256]⟩ : Shape)) (h' : (⟨2, ![n, 256]⟩ : Shape).ShapeCasts (⟨3, ![1, n, 256]⟩ : Shape))
    (x : (⟨3, ![1, n, 256]⟩ : Shape).Idx) :
    shapeCast (⟨3, ![1, n, 256]⟩ : Shape) (shapeCast (⟨2, ![n, 256]⟩ : Shape) v h) h' x = v (tail x) := by
  rw [shapeCast_self]
  refine shapeCast_apply v h' x _ ?_
  rw [Shape.rowMajor_val_two, Shape.rowMajor_val_three]
  have h0 : (x 0).val = 0 := Nat.lt_one_iff.mp (x 0).isLt
  rw [h0]
  show (x 1).val * 256 + (x 2).val = (0 * n + (x 1).val) * 256 + (x 2).val
  omega

/-- A load of rows of the staged block. -/
abbrev loadT (T : Tiles F) (c : Dev nD) (r : Rect S512x256) : r.shape.Idx → Elt F .bf16 :=
  (Memref.whole cc0_stg0_0 : Memref sig .tc .vmem S512x256 .bf16).view.readAt (Elt F) r.toLoadRect (T c)

theorem row_inb (s : Fin 9) : ∀ a, (![off (grp s), 0] : Fin 2 → ℕ) a + (![rows (grp s), 256] : Fin 2 → ℕ) a ≤ S512x256.size a := by
  revert s; decide

/-- The rows of exchange `s`'s group, as a rectangle of the staged block. -/
abbrev rowRect (s : Fin 9) : Rect S512x256 := Rect.unit (s := S512x256) ![off (grp s), 0] ![rows (grp s), 256] (row_inb s)

/-- A first-round slot filled from the staged block's rows holds what the slot sends. -/
theorem first_load (T : Tiles F) (c : Dev nD) (s : Fin 9) (hr : (rnd s).val = 0) (x : (slotRect s).shape.Idx) :
    loadT T c (rowRect s) (tail x) = sent T c ((slotRect s).emb x) := by
  rw [← first_emb T c s hr x]
  exact congrArg (T c) (funext fun a => Fin.ext (by fin_cases a <;> rfl))

section Stored
variable (T : Tiles F) (c : Dev nD)

theorem pay1_apply (x : (slotRect 0).shape.Idx) :
    k0_pay1 (loadT T c (Rect.unit (s := S512x256) ![0, 0] S176x256.size inb_S512x256_S176x256_0_0)) x = sent T c ((slotRect 0).emb x) :=
  (lift_rows (loadT T c (rowRect 0)) shapeCasts_S176x256_S176x256 shapeCasts_S176x256_S1x176x256 x).trans (first_load T c 0 rfl x)
theorem pay2_apply (x : (slotRect 1).shape.Idx) :
    k0_pay2 (loadT T c (Rect.unit (s := S512x256) ![176, 0] S176x256.size inb_S512x256_S176x256_176_0)) x = sent T c ((slotRect 1).emb x) :=
  (lift_rows (loadT T c (rowRect 1)) shapeCasts_S176x256_S176x256 shapeCasts_S176x256_S1x176x256 x).trans (first_load T c 1 rfl x)
theorem pay3_apply (x : (slotRect 2).shape.Idx) :
    k0_pay3 (loadT T c (Rect.unit (s := S512x256) ![352, 0] S160x256.size inb_S512x256_S160x256_352_0)) x = sent T c ((slotRect 2).emb x) :=
  (lift_rows (loadT T c (rowRect 2)) shapeCasts_S160x256_S160x256 shapeCasts_S160x256_S1x160x256 x).trans (first_load T c 2 rfl x)
theorem pay6_apply (x : (slotRect 3).shape.Idx) :
    k0_pay6 (k0_pay5 (loadS (sent T c) 0) (loadR (got T c) 0)) x = sent T c ((slotRect 3).emb x) :=
  (add_slots _ _ _ _ x).trans (next_emb T c 0 3 rfl rfl x x (funext fun a => by fin_cases a <;> rfl))
theorem pay8_apply (x : (slotRect 4).shape.Idx) :
    k0_pay8 (k0_pay7 (loadS (sent T c) 1)) (loadR (got T c) 1) x = sent T c ((slotRect 4).emb x) :=
  (add_slots _ _ _ _ x).trans (next_emb T c 1 4 rfl rfl x x (funext fun a => by fin_cases a <;> rfl))
theorem pay9_apply (x : (slotRect 5).shape.Idx) :
    k0_pay9 (loadS (sent T c) 2) (loadR (got T c) 2) x = sent T c ((slotRect 5).emb x) :=
  (add_slots _ _ _ _ x).trans (next_emb T c 2 5 rfl rfl x x (funext fun a => by fin_cases a <;> rfl))
theorem pay10_apply (x : (slotRect 6).shape.Idx) :
    k0_pay10 (loadS (sent T c) 3) (loadR (got T c) 3) x = sent T c ((slotRect 6).emb x) :=
  (add_slots _ _ _ _ x).trans (next_emb T c 3 6 rfl rfl x x (funext fun a => by fin_cases a <;> rfl))
theorem pay11_apply (x : (slotRect 7).shape.Idx) :
    k0_pay11 (loadS (sent T c) 4) (loadR (got T c) 4) x = sent T c ((slotRect 7).emb x) :=
  (add_slots _ _ _ _ x).trans (next_emb T c 4 7 rfl rfl x x (funext fun a => by fin_cases a <;> rfl))
theorem pay12_apply (x : (slotRect 8).shape.Idx) :
    k0_pay12 (loadS (sent T c) 5) (loadR (got T c) 5) x = sent T c ((slotRect 8).emb x) :=
  (add_slots _ _ _ _ x).trans (next_emb T c 5 8 rfl rfl x x (funext fun a => by fin_cases a <;> rfl))

end Stored

/-- The device's result: the last round's two sums added, times the second operand. -/
def outOf (T : Tiles F) (Wt : S256x256.Idx → Elt F .bf16) (c : Dev nD) : S512x256.Idx → Elt F .f32 :=
  k0_pay13 (k0_pay4 Wt) (sendB.view.readAt (Elt F) topRect.toLoadRect (sent T c)) (recvB.view.readAt (Elt F) topRect.toLoadRect (got T c))

end Cert.Cube

end
-- ==== Proof.Protocol.lean ====
/-
  The protocol of the exchange, as a schedule of duties on semaphore cells. Every cell has one round.

  * Device `c`'s BARRIER cell has three duties of one unit, duty `i` paid by the device across mask `i`: its signal hands
    `c` that device's three receive slots of the exchanges crossing mask `i`, whatever they hold. `c` waits for all three.
  * Device `c`'s RECEIVE cell of exchange `s` has one duty, the copy's credit, paid by the peer's copy: it hands `c` its own
    receive slot, holding the peer's sum (`got`).
  * Device `c`'s SEND cell of exchange `s` has one duty, the same credit, paid by `c`'s own copy once its source is read: it
    hands back the half share of the send slot the copy was lent.

  At launch device `c` owes its three peers' barrier units and its nine copies' credits. Waiting goes up the levels: staging
  and send cells at 0, barrier cells at 1, the receive cell of exchange `s` at `2 + s`; a device waiting for exchange `s`
  has started every exchange up to `s`.
-/
module

public import proofs.«01_k».proof.Proof.Contents

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy beside the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (T : Tiles F)

/-! ## What a cell hands over -/

/-- Device `c`'s send slot of exchange `s`, at a share, holding what it sends; -/
def sentPts (q : PosShare TreeShare) (c : Dev nD) (s : Fin 9) : sProp 𝕄 :=
  ((c : Thread nD τ).loc cc0_scratch0) ↦[slotSet s]{q} (sent T c : Box F)
/-- its receive slot, holding what its peer sent; -/
def gotPts (c : Dev nD) (s : Fin 9) : sProp 𝕄 :=
  ((c : Thread nD τ).loc cc0_scratch1) ↦[slotSet s]{fullShare} (got T c : Box F)
/-- either slot at anything. -/
def sendAny (c : Dev nD) (s : Fin 9) : sProp 𝕄 :=
  iprop(∃ f : Box F, ((c : Thread nD τ).loc cc0_scratch0) ↦[slotSet s]{fullShare} f)
def recvAny (c : Dev nD) (s : Fin 9) : sProp 𝕄 :=
  iprop(∃ f : Box F, ((c : Thread nD τ).loc cc0_scratch1) ↦[slotSet s]{fullShare} f)

/-- What the signal across mask `i` hands device `c`. -/
def barPay (c : Dev nD) (i : Fin 3) : sProp 𝕄 :=
  iprop(recvAny (peer i c) (exch i 0) ∗ recvAny (peer i c) (exch i 1) ∗ recvAny (peer i c) (exch i 2))

omit [FloatOps F] in
instance recvAny_storable (c : Dev nD) (s : Fin 9) : BI.Storable (upEmb : UEmb _ 𝕄) (recvAny (F := F) c s) := by unfold recvAny; infer_instance
omit [FloatOps F] in
instance barPay_storable (c : Dev nD) (i : Fin 3) : BI.Storable (upEmb : UEmb _ 𝕄) (barPay (F := F) c i) := by unfold barPay; infer_instance
instance sentPts_storable (q : PosShare TreeShare) (c : Dev nD) (s : Fin 9) : BI.Storable (upEmb : UEmb _ 𝕄) (sentPts T q c s) := by unfold sentPts; infer_instance
instance gotPts_storable (c : Dev nD) (s : Fin 9) : BI.Storable (upEmb : UEmb _ 𝕄) (gotPts T c s) := by unfold gotPts; infer_instance

/-! ## The schedule -/

def payOf (c : Dev nD) (sm : SemLoc sig) (d : Fin 3) : sProp 𝕄 :=
  match sm with
  | .reg _ => barPay c d
  | .dma q => if isSend q then sentPts T fullShare.left c (exchOf q) else if isRecv q then gotPts T c (exchOf q) else iprop(emp)

def dutiesOf (sm : SemLoc sig) : Finset (Fin 3) :=
  match sm with
  | .reg _ => Finset.univ
  | .dma q => if isSend q ∨ isRecv q then {0} else ∅

def amountOf (sm : SemLoc sig) : ℕ :=
  match sm with
  | .reg _ => 1
  | .dma q => amt (exchOf q)

def sched : Rounds.Schedule (GSem nD τ sig) (Fin 3) 𝕄 where
  duties g r := if r = 0 ∧ g.1.2 = .tc then dutiesOf g.2 else ∅
  unitless _ := False
  amount g _ _ := amountOf g.2
  payload g _ d := payOf T g.1.1 g.2 d
  amount_pos g _ _ _ := by
    rcases g with ⟨t, sm⟩
    cases sm with
    | reg _ => exact Nat.one_pos
    | dma q => exact amt_pos _

instance sched_payload_storable (g : GSem nD τ sig) (r : ℕ) (d : Fin 3) : BI.Storable (upEmb : UEmb _ 𝕄) ((sched T).payload g r d) := by
  rcases g with ⟨t, sm⟩
  show BI.Storable upEmb (payOf T t.1 sm d)
  unfold payOf
  cases sm with
  | reg _ => show BI.Storable upEmb (barPay (F := F) t.1 d); infer_instance
  | dma q =>
    show BI.Storable upEmb (if isSend q then sentPts T fullShare.left t.1 (exchOf q) else if isRecv q then gotPts T t.1 (exchOf q) else iprop(emp))
    (repeat' split) <;> infer_instance

section Sched
variable (c : Dev nD) (s : Fin 9) (d : Fin 3)

theorem duties_zero (sm : SemLoc sig) : (sched T).duties ((c : Thread nD τ), sm) 0 = dutiesOf sm := by
  show ite (0 = 0 ∧ (c : Thread nD τ).2 = .tc) (dutiesOf sm) ∅ = dutiesOf sm
  exact if_pos ⟨rfl, rfl⟩
theorem duties_bar : (sched T).duties (barCell c) 0 = Finset.univ := duties_zero T c _
theorem duties_send : (sched T).duties (sendCell c s) 0 = {0} := (duties_zero T c _).trans (if_pos (Or.inl (isSend_send s)))
theorem duties_recv : (sched T).duties (recvCell c s) 0 = {0} := (duties_zero T c _).trans (if_pos (Or.inr (isRecv_recv s)))
theorem duties_later (g : GSem nD τ sig) : ∀ r, 1 ≤ r → (sched T).duties g r = ∅ := fun r hr => by
  show ite (r = 0 ∧ g.1.2 = .tc) (dutiesOf g.2) ∅ = ∅
  exact if_neg fun h => by omega

theorem amount_bar : (sched T).amount (barCell c) 0 d = 1 := rfl
theorem amount_send : (sched T).amount (sendCell c s) 0 d = amt s := congrArg amt (exchOf_send s)
theorem amount_recv : (sched T).amount (recvCell c s) 0 d = amt s := congrArg amt (exchOf_recv s)

theorem expect_bar : (sched T).expect (barCell c) 0 = 3 := by
  unfold Schedule.expect Schedule.amountOf
  rw [duties_bar, Finset.sum_congr rfl fun d _ => amount_bar T c d]; rfl
theorem expect_send : (sched T).expect (sendCell c s) 0 = amt s := by
  unfold Schedule.expect Schedule.amountOf; rw [duties_send, Finset.sum_singleton, amount_send]
theorem expect_recv : (sched T).expect (recvCell c s) 0 = amt s := by
  unfold Schedule.expect Schedule.amountOf; rw [duties_recv, Finset.sum_singleton, amount_recv]

theorem payload_bar : (sched T).payload (barCell c) 0 d = barPay c d := rfl
theorem payload_send : (sched T).payload (sendCell c s) 0 d = sentPts T fullShare.left c s :=
  (if_pos (isSend_send s)).trans (by rw [exchOf_send])
theorem payload_recv : (sched T).payload (recvCell c s) 0 d = gotPts T c s :=
  (if_neg (not_isSend_recv s)).trans ((if_pos (isRecv_recv s)).trans (by rw [exchOf_recv]))

/-- The whole of a cell's round. -/
theorem rest_bar : bigSep ((sched T).duties (barCell c) 0 \ ∅) (fun d => (sched T).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((sched T).duties (sendCell c s) 0 \ ∅) (fun d => (sched T).payload (sendCell c s) 0 d) = sentPts T fullShare.left c s := by
  rw [Finset.sdiff_empty, duties_send, bigSep_singleton, payload_send]
theorem rest_recv : bigSep ((sched T).duties (recvCell c s) 0 \ ∅) (fun d => (sched T).payload (recvCell c s) 0 d) = gotPts T c s := by
  rw [Finset.sdiff_empty, duties_recv, bigSep_singleton, payload_recv]

end Sched

/-! ## What a device owes, and the levels -/

/-- The credits of the last `k` exchanges' copies. -/
def owedCopies (c : Dev nD) : ℕ → CellTallies nD τ sig Unit
  | 0 => 0
  | k + 1 => owedCopies c k + tallyAt (recvCell (peer (mask (Fin.ofNat 9 (8 - k))) c) (Fin.ofNat 9 (8 - k))) () (amt (Fin.ofNat 9 (8 - k)))

/-- The copy of exchange `s` pays one credit. -/
theorem owedCopies_step (c : Dev nD) (s : Fin 9) :
    owedCopies c (9 - s.val) = owedCopies c (8 - s.val) + tallyAt (recvCell (peer (mask s) c) s) () (amt s) := by
  have h : 9 - s.val = (8 - s.val) + 1 := by omega
  have h' : Fin.ofNat 9 (8 - (8 - s.val)) = s := by apply Fin.ext; show (8 - (8 - s.val)) % 9 = s.val; omega
  rw [h]; show owedCopies c (8 - s.val) + _ = _; rw [h']

/-- At launch: the copies, and a unit for each peer's barrier, the first signalled peeled first. -/
def owed1 (c : Dev nD) : CellTallies nD τ sig Unit := owedCopies c 9 + tallyAt (barCell (peer 2 c)) () 1
def owed2 (c : Dev nD) : CellTallies nD τ sig Unit := owed1 c + tallyAt (barCell (peer 1 c)) () 1
def owed3 (c : Dev nD) : CellTallies nD τ sig Unit := owed2 c + tallyAt (barCell (peer 0 c)) () 1

def L (g : GSem nD τ sig) : Finset Unit := if g.1.2 = .tc then {()} else ∅
def levelOf (sm : SemLoc sig) : ℕ :=
  match sm with
  | .reg _ => 1
  | .dma q => if isRecv q then 2 + (exchOf q).val else 0
def lv (g : GSem nD τ sig) (_ : Unit) : ℕ := levelOf g.2

theorem L_of_ne (g : GSem nD τ sig) (h : g.1.2 ≠ .tc) : L g = ∅ := if_neg h
theorem L_tc (c : Dev nD) (sm : SemLoc sig) : L ((c : Thread nD τ), sm) = {()} := if_pos rfl
theorem level_recv (s : Fin 9) : levelOf (.dma (recvS s)) = 2 + s.val := (if_pos (isRecv_recv s)).trans (by rw [exchOf_recv])
theorem level_not_recv (q : DmaSem sig) (h : ¬ isRecv q) : levelOf (.dma q) = 0 := if_neg h

theorem tallyAt_pos {g g' : GSem nD τ sig} {u u' : Unit} {n : ℕ} (h : 0 < tallyAt g u n g' u') : g' = g := by
  rw [tallyAt_apply] at h
  by_contra hn
  rw [if_neg fun h' => hn h'.1] at h
  exact Nat.lt_irrefl 0 h

theorem owedCopies_pos {c : Dev nD} {k : ℕ} (hk : k ≤ 9) {g : GSem nD τ sig} {u : Unit} (h : 0 < owedCopies c k g u) :
    ∃ s : Fin 9, 9 ≤ s.val + k ∧ g = recvCell (peer (mask s) c) s := by
  induction k with
  | zero => exact absurd h (Nat.lt_irrefl 0)
  | succ k ih =>
    unfold owedCopies at h
    rw [Pi.add_apply, Finsupp.add_apply] at h
    rcases Nat.eq_zero_or_pos (owedCopies c k g u) with h0 | h0
    · rw [h0, Nat.zero_add] at h
      refine ⟨_, ?_, tallyAt_pos h⟩
      show 9 ≤ (8 - k) % 9 + (k + 1)
      omega
    · obtain ⟨s, hs, e⟩ := ih (by omega) h0
      exact ⟨s, by omega, e⟩

theorem owed3_pos {c : Dev nD} {g : GSem nD τ sig} {u : Unit} (h : 0 < owed3 c g u) :
    (∃ i, g = barCell (peer i c)) ∨ ∃ s, g = recvCell (peer (mask s) c) s := by
  unfold owed3 owed2 owed1 at h
  rw [Pi.add_apply, Finsupp.add_apply, Pi.add_apply, Finsupp.add_apply, Pi.add_apply, Finsupp.add_apply] at h
  by_cases h0 : 0 < tallyAt (barCell (peer 0 c)) () 1 g u
  · exact .inl ⟨0, tallyAt_pos h0⟩
  by_cases h1 : 0 < tallyAt (barCell (peer 1 c)) () 1 g u
  · exact .inl ⟨1, tallyAt_pos h1⟩
  by_cases h2 : 0 < tallyAt (barCell (peer 2 c)) () 1 g u
  · exact .inl ⟨2, tallyAt_pos h2⟩
  obtain ⟨s, -, e⟩ := owedCopies_pos (k := 9) le_rfl (by omega : 0 < owedCopies c 9 g u)
  exact .inr ⟨s, e⟩

/-- Waiting for exchange `s` while owing later exchanges' copies only; -/
theorem mayWait_recv (c : Dev nD) (s : Fin 9) (k : ℕ) (hk : s.val + k < 9) :
    (levAts L lv : sProp 𝕄) ⊢ MayWait (c : Thread nD τ) (.dma (recvS s)) () (owedCopies c k) :=
  MayOwe.of_cut (L := L) (lev := lv) (2 + s.val) (fun p hp => by rw [Finset.mem_singleton.mp hp, L_tc]; exact Finset.mem_singleton_self _)
    (fun g u hg => by obtain ⟨t, -, rfl⟩ := owedCopies_pos (by omega) hg; exact Finset.mem_singleton_self _)
    (fun p hp => by rw [Finset.mem_singleton.mp hp]; exact (level_recv s).le)
    (fun g u hg => by obtain ⟨t, ht, rfl⟩ := owedCopies_pos (by omega) hg; show 2 + s.val < levelOf _; rw [level_recv]; omega)

/-- at the barrier, owing the copies; -/
theorem mayWait_bar (c : Dev nD) :
    (levAts L lv : sProp 𝕄) ⊢ MayWait (c : Thread nD τ) (.reg barS) () (owedCopies c 9) :=
  MayOwe.of_cut (L := L) (lev := lv) 1 (fun p hp => by rw [Finset.mem_singleton.mp hp, L_tc]; exact Finset.mem_singleton_self _)
    (fun g u hg => by obtain ⟨t, -, rfl⟩ := owedCopies_pos le_rfl hg; exact Finset.mem_singleton_self _)
    (fun p hp => by rw [Finset.mem_singleton.mp hp]; exact Nat.le_refl 1)
    (fun g u hg => by obtain ⟨t, ht, rfl⟩ := owedCopies_pos le_rfl hg; show 1 < levelOf _; rw [level_recv]; omega)

/-- for staging, owing anything the kernel owes before or after its body. -/
theorem mayWait_stage (c : Dev nD) (q : DmaSem sig) (hq : ¬ isRecv q) (O : CellTallies nD τ sig Unit) (hO : O = owed3 c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases owed3_pos hg with ⟨i, rfl⟩ | ⟨s, rfl⟩ <;> exact Finset.mem_singleton_self _)
      (fun p hp => by rw [Finset.mem_singleton.mp hp]; exact (level_not_recv q hq).le)
      (fun g u hg => by
        rcases owed3_pos hg with ⟨i, rfl⟩ | ⟨s, rfl⟩
        · exact Nat.one_pos
        · show 0 < levelOf _; rw [level_recv]; omega)
  · rw [MayWait_zero]; iintro -; iempintro

end Cert.Cube

end
-- ==== Proof.Steps.lean ====
/-
  The steps the body repeats, each once for a symbolic exchange `s` on a symbolic device `c`: filling a send slot and starting
  its copy; waiting for the peer's copy; reading both slots; waiting for the own copy to have left. Between the steps an
  exchange is in one of four states: `ready`, `flying`, `landed`, `done`.
-/
module

public import proofs.«01_k».proof.Proof.Protocol

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (T : Tiles F)

/-! ## The cells' shared records -/

/-- A device's cells, numbered: the barrier's, the nine send cells, the nine receive cells. -/
def csem (k : Fin 19) : SemLoc sig := if k.val = 0 then .reg barS else .dma (⟨k.val + 2, by omega⟩ : Fin 21)
def sendIx (s : Fin 9) : Fin 19 := ⟨s.val + 1, by omega⟩
def recvIx (s : Fin 9) : Fin 19 := ⟨s.val + 10, by omega⟩
theorem csem_bar : csem 0 = .reg barS := rfl
theorem csem_send (s : Fin 9) : csem (sendIx s) = .dma (sendS s) := by revert s; decide
theorem csem_recv (s : Fin 9) : csem (recvIx s) = .dma (recvS s) := by revert s; decide

def kcell (ck : Dev nD × Fin 19) : GSem nD τ sig := ((ck.1 : Thread nD τ), csem ck.2)
theorem kcell_bar (c : Dev nD) : kcell (c, 0) = barCell c := rfl
theorem kcell_send (c : Dev nD) (s : Fin 9) : kcell (c, sendIx s) = sendCell c s := congrArg (Prod.mk _) (csem_send s)
theorem kcell_recv (c : Dev nD) (s : Fin 9) : kcell (c, recvIx s) = recvCell c s := congrArg (Prod.mk _) (csem_recv s)

variable (K : Dev nD × Fin 19 → ℕ)

/-- Every cell's invariant, under the name the launch gave it, and that every cell has reached its round. -/
def records : sProp 𝕄 :=
  iprop((bigSep Finset.univ fun ck : Dev nD × Fin 19 => cellInv ER (sched T) (K ck) (kcell ck))
    ∗ bigSep Finset.univ fun ck : Dev nD × Fin 19 => reached ER (kcell ck) 0)

instance records_persistent : BI.Persistent (records T K) := by unfold records; infer_instance

theorem record (ck : Dev nD × Fin 19) : records T K ⊢ iprop(cellInv ER (sched T) (K ck) (kcell ck) ∗ reached ER (kcell ck) 0) := by
  unfold records
  exact BIClass.sep_mono (bigSep_elim (Finset.mem_univ ck)) (bigSep_elim (Finset.mem_univ ck))

theorem record_bar (c : Dev nD) : records T K ⊢ iprop(cellInv ER (sched T) (K (c, 0)) (barCell c) ∗ reached ER (barCell c) 0) := record T K (c, 0)
theorem record_send (c : Dev nD) (s : Fin 9) :
    records T K ⊢ iprop(cellInv ER (sched T) (K (c, sendIx s)) (sendCell c s) ∗ reached ER (sendCell c s) 0) := by
  rw [← kcell_send]; exact record T K _
theorem record_recv (c : Dev nD) (s : Fin 9) :
    records T K ⊢ iprop(cellInv ER (sched T) (K (c, recvIx s)) (recvCell c s) ∗ reached ER (recvCell c s) 0) := by
  rw [← kcell_recv]; exact record T K _

/-! ## The states of an exchange -/

/-- What a device still owes, whatever waits it has begun. -/
def owing (c : Dev nD) (O : CellTallies nD τ sig Unit) : sProp 𝕄 := iprop(∃ W : Waits sig Unit, owes (c : Thread nD τ) O W)

/-- Before it starts: both cells at their round, the two duties its copy pays, the credit for the peer's, the send slot. -/
def ready (c : Dev nD) (s : Fin 9) : sProp 𝕄 :=
  iprop(atPos ER (recvCell c s) 0 ∅ 0 ∗ cred (tallyAt (recvCell c s) () (amt s)) ∗ atPos ER (sendCell c s) 0 ∅ 0
    ∗ dutyTok ER (sendCell c s) 0 0 ∗ dutyTok ER (recvCell (peer (mask s) c) s) 0 0 ∗ sendAny c s)
/-- The copy under way, half of the send slot with it. -/
def flying (c : Dev nD) (s : Fin 9) : sProp 𝕄 :=
  iprop(atPos ER (recvCell c s) 0 ∅ 0 ∗ cred (tallyAt (recvCell c s) () (amt s)) ∗ atPos ER (sendCell c s) 0 ∅ 0
    ∗ cred (tallyAt (sendCell c s) () (amt s)) ∗ sentPts T fullShare.right c s)
/-- The peer's copy landed, the receive cell closed. -/
def landed (c : Dev nD) (s : Fin 9) : sProp 𝕄 :=
  iprop(semVal (recvCell c s) 0 ∗ gotPts T c s ∗ atPos ER (sendCell c s) 0 ∅ 0
    ∗ cred (tallyAt (sendCell c s) () (amt s)) ∗ sentPts T fullShare.right c s)
/-- Both copies over, both cells closed. -/
def done (c : Dev nD) (s : Fin 9) : sProp 𝕄 :=
  iprop(semVal (recvCell c s) 0 ∗ gotPts T c s ∗ semVal (sendCell c s) 0 ∗ sentPts T fullShare c s)

theorem sent_halves (c : Dev nD) (s : Fin 9) :
    sentPts T fullShare c s ⊣⊢ iprop(sentPts T fullShare.left c s ∗ sentPts T fullShare.right c s) :=
  pointsTo_share (PosShare.mem_left_op_right fullShare)

section Steps
variable (c : Dev nD) (s : Fin 9)

/-- The state of the program from `p` on. -/
abbrev goes {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Filling a slot -/

/-- A load of a slot whose value is dropped, then a store of what the slot sends. -/
theorem fill {α : Type} {Q : α → sProp 𝕄} {hl : sendB.view.LoadsAt (slotRect s).toLoadRect} {w : (slotRect s).shape.Idx → Elt F .bf16}
    {hx : (sendB.access (slotRect s)).Stores Finset.univ} {hm : Finset.univ = Finset.univ ∨ ∀ a, (slotRect s).stride a = 1}
    {k : PUnit → Prog (TpuEff nD τ sig (Elt F) Λ₀ .tc) α} (hw : ∀ x, w x = sent T c ((slotRect s).emb x)) :
    sendAny c s ⊢ iprop((sentPts T fullShare c s -∗ goes c (k ⟨⟩) Q)
      -∗ goes c (.op (.load sendB (slotRect s).toLoadRect hl) fun _ => .op (.store sendB (slotRect s) w Finset.univ hx hm) k) Q) := by
  unfold sendAny sentPts
  iintro ⟨%f, H⟩ Hk
  iapply (wp_load_rect 𝒱₀ (c : Thread nD τ) none Set.univ (m := sendB) (r := slotRect s) (send_access_set s).subset) $$ H; iintro H
  iapply (wp_store 𝒱₀ (c : Thread nD τ) none Set.univ (m := sendB) (r := slotRect s) (Mk := Finset.univ) (send_access_set s).subset) $$ H; iintro H
  iapply Hk
  iapply (Entails.of_eq (pointsTo_congr (stored s f (sent T c) w hw))); iexact H

/-! ## Starting a copy -/

theorem copy (n : Dev nD) (hn : n = peer (mask s) c) {α : Type} {Q : α → sProp 𝕄} {hsc : (recvM s).view.ref.isScScratch = false}
    {hsrc : (sendM s).view.WordExact} {hdst : (recvM s).view.WordExact}
    {hsem : DmaTarget.Typed .vmem (.dma (recvS s)) (.remote (Dev.tc n : Thread nD τ) (recvM s) (.dma (sendS s)) hsc)}
    {k : PUnit → Prog (TpuEff nD τ sig (Elt F) Λ₀ .tc) α} :
    iprop(records T K ∗ sentPts T fullShare.left c s ∗ recvAny (peer (mask s) c) s ∗ owing c (owedCopies c (9 - s.val))
        ∗ dutyTok ER (sendCell c s) 0 0 ∗ dutyTok ER (recvCell (peer (mask s) c) s) 0 0)
      ⊢ iprop(((cred (tallyAt (sendCell c s) () (amt s)) ∗ owing c (owedCopies c (8 - s.val))) -∗ goes c (k ⟨⟩) Q)
          -∗ goes c (.op (.enqueueDma (sendM s) (.remote (Dev.tc n : Thread nD τ) (recvM s) (.dma (sendS s)) hsc) (.dma (recvS s)) hsrc hdst hsem) k) Q) := by
  subst hn
  unfold recvAny owing
  iintro ⟨#HR, Hs, ⟨%fd, Hd⟩, ⟨%W, HO⟩, Ht, Hu⟩ Hk
  ihave Hr1 := (record_send T K c s) $$ HR; icases Hr1 with ⟨#HI1, #HR1⟩
  ihave Hr2 := (record_recv T K (peer (mask s) c) s) $$ HR; icases Hr2 with ⟨#HI2, #HR2⟩
  iapply (Rounds.wp_send_pointsTo 𝒱₀ ER (sched T) (c : Thread nD τ) none (c' := (Dev.tc (peer (mask s) c) : Thread nD τ)) (src := sendM s) (dst := recvM s)
    (κ₁ := K (c, sendIx s)) (κ₂ := K (peer (mask s) c, recvIx s))
    (r₁ := 0) (r₂ := 0) (d₁ := 0) (d₂ := 0) (q := fullShare.left) (fs := sent T c) (fd := fd)
    (by rw [duties_send]; exact Finset.mem_singleton_self _) (by rw [duties_recv]; exact Finset.mem_singleton_self _)
    () () (amt s) rfl (amount_send T c s 0) (amount_recv T (peer (mask s) c) s 0) (owedCopies c (8 - s.val)) (owedCopies_step c s) (W := W)
    (by rw [payload_send, sendM_set]; exact BI.Entails.refl _)
    (by
      rw [payload_recv, recvM_set]
      exact Entails.of_eq (pointsTo_congr fun i hi => (copied s fd (sent T c) i hi).trans (by
        rw [← got_eq T (peer (mask s) c) s i hi, peer_peer])))) $$ [Hs Hd HO Ht Hu]
  · isplitr; · iexact HI1
    isplitr; · iexact HI2
    isplitl [Hs]; · rw [sendM_set]; unfold sentPts; iexact Hs
    isplitl [Hd]; · rw [recvM_set]; iexact Hd
    isplitl [HO]; · iexact HO
    isplitl [Ht]; · iexact Ht
    isplitr; · iexact HR1
    isplitl [Hu]; · iexact Hu
    iexact HR2
  iintro ⟨Hc, HO⟩
  iapply Hk
  isplitl [Hc]; · iexact Hc
  iexists W; iexact HO

/-- An exchange starts: the slot filled, its copy to the peer's slot under way. -/
theorem begin_exchange (n : Dev nD) (hn : n = peer (mask s) c) {α : Type} {Q : α → sProp 𝕄} {hl : sendB.view.LoadsAt (slotRect s).toLoadRect} {w : (slotRect s).shape.Idx → Elt F .bf16}
    {hx : (sendB.access (slotRect s)).Stores Finset.univ} {hm : Finset.univ = Finset.univ ∨ ∀ a, (slotRect s).stride a = 1}
    {hsc : (recvM s).view.ref.isScScratch = false} {hsrc : (sendM s).view.WordExact} {hdst : (recvM s).view.WordExact}
    {hsem : DmaTarget.Typed .vmem (.dma (recvS s)) (.remote (Dev.tc n : Thread nD τ) (recvM s) (.dma (sendS s)) hsc)}
    {k : PUnit → Prog (TpuEff nD τ sig (Elt F) Λ₀ .tc) α} (hw : ∀ x, w x = sent T c ((slotRect s).emb x)) :
    iprop(records T K ∗ ready c s ∗ recvAny (peer (mask s) c) s ∗ owing c (owedCopies c (9 - s.val)))
      ⊢ iprop(((flying T c s ∗ owing c (owedCopies c (8 - s.val))) -∗ goes c (k ⟨⟩) Q)
          -∗ goes c (.op (.load sendB (slotRect s).toLoadRect hl) fun _ => .op (.store sendB (slotRect s) w Finset.univ hx hm) fun _ =>
            .op (.enqueueDma (sendM s) (.remote (Dev.tc n : Thread nD τ) (recvM s) (.dma (sendS s)) hsc) (.dma (recvS s)) hsrc hdst hsem) k) Q) := by
  unfold ready flying
  iintro ⟨#HR, ⟨Hav, Hcv, Has, Ht, Hu, Hs⟩, Hd, HO⟩ Hk
  iapply (fill T c s hw) $$ Hs; iintro Hs
  ihave Hs' := (sent_halves T c s).1 $$ Hs; icases Hs' with ⟨Hl, Hr⟩
  iapply (copy T K c s n hn) $$ [Hl Hd HO Ht Hu]
  · isplitr; · iexact HR
    isplitl [Hl]; · iexact Hl
    isplitl [Hd]; · iexact Hd
    isplitl [HO]; · iexact HO
    isplitl [Ht] <;> iassumption
  iintro ⟨Hc, HO⟩
  iapply Hk
  isplitr [HO]
  · isplitl [Hav]; · iexact Hav
    isplitl [Hcv]; · iexact Hcv
    isplitl [Has]; · iexact Has
    isplitl [Hc]; · iexact Hc
    iexact Hr
  iexact HO

/-! ## Waiting -/

/-- The wait for the peer's copy, which closes the receive cell. -/
theorem arrive (j : ℕ) (hj : s.val + j < 9) {α : Type} {Q : α → sProp 𝕄} {hsrc : (sendM s).view.WordExact} {hdst : (recvM s).view.WordExact}
    {k : PUnit → Prog (TpuEff nD τ sig (Elt F) Λ₀ .tc) α} :
    iprop(records T K ∗ levAts L lv ∗ flying T c s ∗ owing c (owedCopies c j))
      ⊢ iprop(((landed T c s ∗ owing c (owedCopies c j)) -∗ goes c (k ⟨⟩) Q)
          -∗ goes c (.op (.waitDma2 (recvS s) (sendM s) (recvM s) hsrc hdst) k) Q) := by
  unfold flying landed owing
  iintro ⟨#HR, #Hlev, ⟨Hav, Hcv, Has, Hcs, Hs⟩, ⟨%W, HO⟩⟩ Hk
  ihave Hr1 := (record_recv T K c s) $$ HR; icases Hr1 with ⟨#HI, -⟩
  iapply (Rounds.wp_wait_rest_token 𝒱₀ ER (sched T) (c : Thread nD τ) none (κ := K (c, recvIx s))
      (wpE_waitDma2_eq 𝒱₀ (c : Thread nD τ) none Set.univ) (Set.mem_univ _) () (O := owedCopies c j) (W := W) (R := 0) (m := 0) (T := ∅)
      (by rw [Nat.zero_add, expect_recv]; rfl)) $$ [Hcv HO Hav]
  · isplitr; · iexact HI
    isplitl [Hcv]; · iexact Hcv
    isplitl [HO]; · iexact HO
    isplitr; · iapply (mayWait_recv c s j hj); iexact Hlev
    iexact Hav
  iintro ⟨HO, Hav, -, Hp⟩
  ihave Hp' := (Entails.of_eq (rest_recv T c s)) $$ Hp
  imod (Rounds.cell_close ER (sched T) (Set.mem_univ (K (c, recvIx s))) (fun h => h) (R := 0 + 1) (duties_later T (recvCell c s))) $$ [Hav] with Hz
  · isplitr; · iexact HI
    iexact Hav
  iapply Hk
  isplitr [HO]
  · isplitl [Hz]; · iexact Hz
    isplitl [Hp']; · iexact Hp'
    isplitl [Has]; · iexact Has
    isplitl [Hcs]; · iexact Hcs
    iexact Hs
  iexists _; iexact HO

/-- The wait for the own copy to have read its slot, which closes the send cell and makes the slot whole. -/
theorem leave {α : Type} {Q : α → sProp 𝕄} {hsrc : (recvM s).view.WordExact} {hdst : (sendM s).view.WordExact}
    {k : PUnit → Prog (TpuEff nD τ sig (Elt F) Λ₀ .tc) α} :
    iprop(records T K ∗ landed T c s ∗ owing c 0)
      ⊢ iprop(((done T c s ∗ owing c 0) -∗ goes c (k ⟨⟩) Q)
          -∗ goes c (.op (.waitDma2 (sendS s) (recvM s) (sendM s) hsrc hdst) k) Q) := by
  unfold landed done owing
  iintro ⟨#HR, ⟨Hzv, Hg, Has, Hcs, Hs⟩, ⟨%W, HO⟩⟩ Hk
  ihave Hr1 := (record_send T K c s) $$ HR; icases Hr1 with ⟨#HI, -⟩
  iapply (Rounds.wp_wait_rest_token 𝒱₀ ER (sched T) (c : Thread nD τ) none (κ := K (c, sendIx s))
      (wpE_waitDma2_eq 𝒱₀ (c : Thread nD τ) none Set.univ) (Set.mem_univ _) () (O := 0) (W := W) (R := 0) (m := 0) (T := ∅)
      (by rw [Nat.zero_add, expect_send]; rfl)) $$ [Hcs HO Has]
  · isplitr; · iexact HI
    isplitl [Hcs]; · iexact Hcs
    isplitl [HO]; · iexact HO
    isplitr; · rw [MayWait_zero]; iempintro
    iexact Has
  iintro ⟨HO, Has, -, Hp⟩
  ihave Hl := (Entails.of_eq (rest_send T c s)) $$ Hp
  imod (Rounds.cell_close ER (sched T) (Set.mem_univ (K (c, sendIx s))) (fun h => h) (R := 0 + 1) (duties_later T (sendCell c s))) $$ [Has] with Hz
  · isplitr; · iexact HI
    iexact Has
  iapply Hk
  isplitr [HO]
  · isplitl [Hzv]; · iexact Hzv
    isplitl [Hg]; · iexact Hg
    isplitl [Hz]; · iexact Hz
    iapply (sent_halves T c s).2; isplitl [Hl] <;> iassumption
  iexists _; iexact HO

/-! ## Reading -/

/-- Both slots of an exchange read. -/
theorem read_slots {α : Type} {Q : α → sProp 𝕄} {hl : sendB.view.LoadsAt (slotRect s).toLoadRect} {hl' : recvB.view.LoadsAt (slotRect s).toLoadRect}
    {k : ((slotRect s).shape.Idx → Elt F .bf16) → ((slotRect s).shape.Idx → Elt F .bf16) → Prog (TpuEff nD τ sig (Elt F) Λ₀ .tc) α} :
    landed T c s ⊢ iprop((landed T c s -∗ goes c (k (loadS (sent T c) s) (loadR (got T c) s)) Q)
      -∗ goes c (.op (.load sendB (slotRect s).toLoadRect hl) fun a => .op (.load recvB (slotRect s).toLoadRect hl') fun b => k a b) Q) := by
  unfold landed sentPts gotPts
  iintro ⟨Hz, Hg, Ha, Hc, Hs⟩ Hk
  iapply (wp_load_rect 𝒱₀ (c : Thread nD τ) none Set.univ (m := sendB) (r := slotRect s) (send_access_set s).subset) $$ Hs; iintro Hs
  iapply (wp_load_rect 𝒱₀ (c : Thread nD τ) none Set.univ (m := recvB) (r := slotRect s) (View.set_slice_whole _ _).subset) $$ Hg; iintro Hg
  iapply Hk
  isplitl [Hz]; · iexact Hz
  isplitl [Hg]; · iexact Hg
  isplitl [Ha]; · iexact Ha
  isplitl [Hc]; · iexact Hc
  iexact Hs

/-! ## From one round to the next -/

/-- Exchange `s` lands, both its slots are read, and exchange `s'` starts with what was made of them. -/
theorem turn {α : Type} {Q : α → sProp 𝕄} (s' : Fin 9) (n : Dev nD) (hn : n = peer (mask s') c) (hj : s.val + (9 - s'.val) < 9)
    (w : ((slotRect s).shape.Idx → Elt F .bf16) → ((slotRect s).shape.Idx → Elt F .bf16) → (slotRect s').shape.Idx → Elt F .bf16)
    (hw : ∀ x, w (loadS (sent T c) s) (loadR (got T c) s) x = sent T c ((slotRect s').emb x))
    {hv : (sendM s).view.WordExact} {hv' : (recvM s).view.WordExact}
    {hr : sendB.view.LoadsAt (slotRect s).toLoadRect} {hr' : recvB.view.LoadsAt (slotRect s).toLoadRect} {hl : sendB.view.LoadsAt (slotRect s').toLoadRect}
    {hx : (sendB.access (slotRect s')).Stores Finset.univ} {hm : Finset.univ = Finset.univ ∨ ∀ a, (slotRect s').stride a = 1}
    {hsc : (recvM s').view.ref.isScScratch = false} {hsrc : (sendM s').view.WordExact} {hdst : (recvM s').view.WordExact}
    {hsem : DmaTarget.Typed .vmem (.dma (recvS s')) (.remote (Dev.tc n : Thread nD τ) (recvM s') (.dma (sendS s')) hsc)}
    {k : PUnit → Prog (TpuEff nD τ sig (Elt F) Λ₀ .tc) α} :
    iprop(records T K ∗ levAts L lv ∗ flying T c s ∗ ready c s' ∗ recvAny (peer (mask s') c) s' ∗ owing c (owedCopies c (9 - s'.val)))
      ⊢ iprop(((landed T c s ∗ flying T c s' ∗ owing c (owedCopies c (8 - s'.val))) -∗ goes c (k ⟨⟩) Q)
          -∗ goes c (.op (.waitDma2 (recvS s) (sendM s) (recvM s) hv hv') fun _ =>
            .op (.load sendB (slotRect s).toLoadRect hr) fun a => .op (.load recvB (slotRect s).toLoadRect hr') fun b =>
            .op (.load sendB (slotRect s').toLoadRect hl) fun _ => .op (.store sendB (slotRect s') (w a b) Finset.univ hx hm) fun _ =>
            .op (.enqueueDma (sendM s') (.remote (Dev.tc n : Thread nD τ) (recvM s') (.dma (sendS s')) hsc) (.dma (recvS s')) hsrc hdst hsem) k) Q) := by
  iintro ⟨#HR, #Hlev, Hf, He, Hd, HO⟩ Hk
  iapply (arrive T K c s (9 - s'.val) hj) $$ [Hf HO]
  · isplitr; · iexact HR
    isplitr; · iexact Hlev
    isplitl [Hf] <;> iassumption
  iintro ⟨Hf, HO⟩
  iapply (read_slots T c s) $$ Hf; iintro Hf
  iapply (begin_exchange T K c s' n hn hw) $$ [He Hd HO]
  · isplitr; · iexact HR
    isplitl [He]; · iexact He
    isplitl [Hd] <;> iassumption
  iintro ⟨He, HO⟩
  iapply Hk
  isplitl [Hf]; · iexact Hf
  isplitl [He] <;> iassumption

end Steps

end Cert.Cube

end
-- ==== Proof.Body.lean ====
/-
  The body, executed once on a symbolic device `c`: the handshake at the barrier, the nine exchanges, the product of the
  last plane's sums with the second operand, and the waits for the nine copies to have left.
-/
module

public import proofs.«01_k».proof.Proof.Steps

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

variable (T : Tiles F) (K : Dev nD × Fin 19 → ℕ) (c : Dev nD)

/-! ## The handshake -/

/-- The signal across mask `i` pays that device's duty `i` with `c`'s own receive slots of mask `i`. -/
theorem signal {α : Type} {Q : α → sProp 𝕄} (i : Fin 3) (n : Dev nD) (hn : n = peer i c) {a : ℕ} (ha : a = 1) {O : CellTallies nD τ sig Unit}
    {k : PUnit → Prog (TpuEff nD τ sig (Elt F) Λ₀ .tc) α} :
    iprop(records T K ∗ dutyTok ER (barCell (peer i c)) 0 i ∗ (recvAny c (exch i 0) ∗ recvAny c (exch i 1) ∗ recvAny c (exch i 2))
        ∗ owing c (O + tallyAt (barCell (peer i c)) () 1))
      ⊢ iprop((owing c O -∗ goes c (k ⟨⟩) Q) -∗ goes c (.op (.semSignal (Dev.tc n : Thread nD τ) barS a) k) Q) := by
  subst hn ha
  unfold owing
  iintro ⟨#HR, Ht, Hs, ⟨%W, HO⟩⟩ Hk
  ihave Hr := (record_bar T K (peer i c)) $$ HR; icases Hr with ⟨#HI, #HR1⟩
  iapply (Rounds.wp_signal 𝒱₀ ER (sched T) (c : Thread nD τ) none (dst := (Dev.tc (peer i c) : Thread nD τ)) (κ := K (peer i c, 0))
      (d := i) (by rw [duties_bar]; exact Finset.mem_univ _) (amount_bar T (peer i c) i) () O rfl) $$ [HO Ht Hs]
  · isplitr; · iexact HI
    isplitl [HO]; · iexact HO
    isplitl [Ht]; · iexact Ht
    isplitl [Hs]; · rw [payload_bar]; unfold barPay; rw [peer_peer]; iexact Hs
    iexact HR1
  iintro HO
  iapply Hk
  iexists W; iexact HO

/-- The wait for the three signals hands over the nine slots `c` writes, each on its peer. -/
theorem handshake {α : Type} {Q : α → sProp 𝕄} {a : ℕ} (ha : a = 3) {k : PUnit → Prog (TpuEff nD τ sig (Elt F) Λ₀ .tc) α} :
    iprop(records T K ∗ levAts L lv ∗ cred (tallyAt (barCell c) () 3) ∗ atPos ER (barCell c) 0 ∅ 0 ∗ owing c (owedCopies c 9))
      ⊢ iprop(((semVal (barCell c) 0 ∗ (barPay c 0 ∗ barPay c 1 ∗ barPay c 2) ∗ owing c (owedCopies c 9)) -∗ goes c (k ⟨⟩) Q)
          -∗ goes c (.op (.semWait barS a) k) Q) := by
  subst ha
  unfold owing
  iintro ⟨#HR, #Hlev, Hc, Ha, ⟨%W, HO⟩⟩ Hk
  ihave Hr := (record_bar T K c) $$ HR; icases Hr with ⟨#HI, -⟩
  iapply (Rounds.wp_wait_rest_token 𝒱₀ ER (sched T) (c : Thread nD τ) none (κ := K (c, 0))
      (wpE_semWait_eq 𝒱₀ (c : Thread nD τ) none Set.univ) (Set.mem_univ _) () (O := owedCopies c 9) (W := W) (R := 0) (m := 0) (T := ∅)
      (by rw [Nat.zero_add, expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  ihave Hp' := (Entails.of_eq (rest_bar T c)) $$ Hp
  imod (Rounds.cell_close ER (sched T) (Set.mem_univ (K (c, 0))) (fun h => h) (R := 0 + 1) (duties_later T (barCell c))) $$ [Ha] with Hz
  · isplitr; · iexact HI
    iexact Ha
  iapply Hk
  isplitl [Hz]; · iexact Hz
  isplitl [Hp']; · iexact Hp'
  iexists _; iexact HO

/-! ## The last plane -/

omit [FloatOps F] in
theorem top_slots (ℓ : Loc nD τ sig) (q : PosShare TreeShare) (f : Buf (Elt F) ℓ) (A B C : Finset (Idx ℓ))
    (hAB : Disjoint A (B ∪ C)) (hBC : Disjoint B C) :
    ((ℓ ↦[A ∪ (B ∪ C)]{q} f : sProp 𝕄)) ⊣⊢ iprop((ℓ ↦[A]{q} f) ∗ (ℓ ↦[B]{q} f) ∗ (ℓ ↦[C]{q} f)) :=
  ⟨(pointsTo_union hAB).1.trans (sep_mono_right (pointsTo_union hBC).1), (sep_mono_right (pointsTo_union hBC).2).trans (pointsTo_union hAB).2⟩

theorem sent_top : (((c : Thread nD τ).loc cc0_scratch0 ↦[topSet]{fullShare.right} (sent T c : Box F) : sProp 𝕄))
    ⊣⊢ iprop(sentPts T fullShare.right c 6 ∗ sentPts T fullShare.right c 7 ∗ sentPts T fullShare.right c 8) :=
  top_slots _ _ _ _ _ _ (Finset.disjoint_union_right.mpr ⟨slot_disjoint (by decide), slot_disjoint (by decide)⟩) (slot_disjoint (by decide))
theorem got_top : (((c : Thread nD τ).loc cc0_scratch1 ↦[topSet]{fullShare} (got T c : Box F) : sProp 𝕄))
    ⊣⊢ iprop(gotPts T c 6 ∗ gotPts T c 7 ∗ gotPts T c 8) :=
  top_slots _ _ _ _ _ _ (Finset.disjoint_union_right.mpr ⟨slot_disjoint (by decide), slot_disjoint (by decide)⟩) (slot_disjoint (by decide))

/-- Both buffers' last planes read, once the last round has landed. -/
theorem read_top {α : Type} {Q : α → sProp 𝕄} {hl : sendB.view.LoadsAt topRect.toLoadRect} {hl' : recvB.view.LoadsAt topRect.toLoadRect}
    {k : (topRect.shape.Idx → Elt F .bf16) → (topRect.shape.Idx → Elt F .bf16) → Prog (TpuEff nD τ sig (Elt F) Λ₀ .tc) α} :
    iprop(landed T c 6 ∗ landed T c 7 ∗ landed T c 8)
      ⊢ iprop(((landed T c 6 ∗ landed T c 7 ∗ landed T c 8)
          -∗ goes c (k (sendB.view.readAt (Elt F) topRect.toLoadRect (sent T c)) (recvB.view.readAt (Elt F) topRect.toLoadRect (got T c))) Q)
      -∗ goes c (.op (.load sendB topRect.toLoadRect hl) fun a => .op (.load recvB topRect.toLoadRect hl') fun b => k a b) Q) := by
  unfold landed
  iintro ⟨⟨Hz6, Hg6, Ha6, Hc6, Hs6⟩, ⟨Hz7, Hg7, Ha7, Hc7, Hs7⟩, ⟨Hz8, Hg8, Ha8, Hc8, Hs8⟩⟩ Hk
  ihave Hs := (sent_top T c).2 $$ [Hs6 Hs7 Hs8]
  · isplitl [Hs6]; · iexact Hs6
    isplitl [Hs7] <;> iassumption
  ihave Hg := (got_top T c).2 $$ [Hg6 Hg7 Hg8]
  · isplitl [Hg6]; · iexact Hg6
    isplitl [Hg7] <;> iassumption
  iapply (wp_load_rect 𝒱₀ (c : Thread nD τ) none Set.univ (m := sendB) (r := topRect) (((View.set_slice_whole _ _).subset).trans top_subset)) $$ Hs; iintro Hs
  iapply (wp_load_rect 𝒱₀ (c : Thread nD τ) none Set.univ (m := recvB) (r := topRect) (((View.set_slice_whole _ _).subset).trans top_subset)) $$ Hg; iintro Hg
  ihave Hs' := (sent_top T c).1 $$ Hs; icases Hs' with ⟨Hs6, Hs7, Hs8⟩
  ihave Hg' := (got_top T c).1 $$ Hg; icases Hg' with ⟨Hg6, Hg7, Hg8⟩
  iapply Hk
  isplitl [Hz6 Hg6 Ha6 Hc6 Hs6]
  · isplitl [Hz6]; · iexact Hz6
    isplitl [Hg6]; · iexact Hg6
    isplitl [Ha6]; · iexact Ha6
    isplitl [Hc6] <;> iassumption
  isplitl [Hz7 Hg7 Ha7 Hc7 Hs7]
  · isplitl [Hz7]; · iexact Hz7
    isplitl [Hg7]; · iexact Hg7
    isplitl [Ha7]; · iexact Ha7
    isplitl [Hc7] <;> iassumption
  · isplitl [Hz8]; · iexact Hz8
    isplitl [Hg8]; · iexact Hg8
    isplitl [Ha8]; · iexact Ha8
    isplitl [Hc8] <;> iassumption

/-! ## The whole body -/

/-- What device `c`'s exchanges start from: the records, its barrier's position and credit, the duties of its three signals,
    its nine exchanges ready, its receive slots, and all it owes. -/
def before : sProp 𝕄 :=
  iprop(records T K ∗ levAts L lv ∗ cred (tallyAt (barCell c) () 3) ∗ atPos ER (barCell c) 0 ∅ 0
    ∗ (bigSep Finset.univ fun i : Fin 3 => dutyTok ER (barCell (peer i c)) 0 i)
    ∗ (bigSep Finset.univ fun s : Fin 9 => ready c s) ∗ (bigSep Finset.univ fun s : Fin 9 => recvAny c s) ∗ owing c (owed3 c))
/-- What they end in: the barrier closed, the nine exchanges done, nothing owed. -/
def after : sProp 𝕄 := iprop(semVal (barCell c) 0 ∗ (bigSep Finset.univ fun s : Fin 9 => done T c s) ∗ owing c 0)

/-- A staging buffer, whole, at contents `X`. -/
abbrev stg (b : Ref sig .tc) (X : b.ty.Contents (Elt F)) : sProp 𝕄 := ((c : Thread nD τ).loc b) ↦{fullShare} (X : Buf (Elt F) ((c : Thread nD τ).loc b))

theorem start_plane : (![0, 0] : Fin 2 → Nat) = fun _ => 0 := funext fun a => by fin_cases a <;> rfl

abbrev outRect : Rect S512x256 := Rect.unit (s := S512x256) ![0, 0] S512x256.size inb_S512x256_S512x256_0_0
theorem store_out (o w : (cc0_stg2_0 : Ref sig .tc).ty.Contents (Elt F)) :
    ((Memref.whole cc0_stg2_0 : Memref sig .tc .vmem S512x256 .f32).access outRect : View sig .tc _ _ _).write (Elt F) o w Finset.univ = w :=
  Memref.write_access_unit_zero_univ (Elt F) cc0_stg2_0 start_plane _ o w

set_option maxHeartbeats 4000000 in
set_option maxRecDepth 65536 in
theorem body_runs (Wt : S256x256.Idx → Elt F .bf16) (o : S512x256.Idx → Elt F .f32) (Q : PUnit → sProp 𝕄) :
    iprop(before T K c ∗ stg c cc0_stg0_0 (T c) ∗ stg c cc0_stg1_0 Wt ∗ stg c cc0_stg2_0 o
        ∗ ((after T c ∗ stg c cc0_stg0_0 (T c) ∗ stg c cc0_stg1_0 Wt ∗ stg c cc0_stg2_0 (outOf T Wt c)) -∗ Q ⟨⟩))
      ⊢ goes c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) Q := by
  unfold goes
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [semSignalWord, semWaitWord, Prog.lift, Prog.bind_op, Prog.bind_ret, Prog.pure_eq_ret, wp_deviceId]
  unfold before
  rw [bigSep_three, bigSep_nine, bigSep_nine]
  iintro ⟨⟨#HR, #Hlev, HcB, HaB, ⟨Ht0, Ht1, Ht2⟩, ⟨He0, He1, He2, He3, He4, He5, He6, He7, He8⟩, ⟨Hd0, Hd1, Hd2, Hd3, Hd4, Hd5, Hd6, Hd7, Hd8⟩, HO⟩,
    Hx, Hw, Ho, Hk⟩
  unfold owed3
  iapply (signal T K c 0 _ (sig0_dev c) rfl) $$ [Ht0 Hd0 Hd7 Hd5 HO]
  · isplitr; · iexact HR
    isplitl [Ht0]; · iexact Ht0
    isplitr [HO]
    · isplitl [Hd0]; · iexact Hd0
      isplitl [Hd7]; · iexact Hd7
      iexact Hd5
    iexact HO
  iintro HO
  unfold owed2
  iapply (signal T K c 1 _ (sig1_dev c) rfl) $$ [Ht1 Hd3 Hd1 Hd8 HO]
  · isplitr; · iexact HR
    isplitl [Ht1]; · iexact Ht1
    isplitr [HO]
    · isplitl [Hd3]; · iexact Hd3
      isplitl [Hd1]; · iexact Hd1
      iexact Hd8
    iexact HO
  iintro HO
  unfold owed1
  iapply (signal T K c 2 _ (sig2_dev c) rfl) $$ [Ht2 Hd6 Hd4 Hd2 HO]
  · isplitr; · iexact HR
    isplitl [Ht2]; · iexact Ht2
    isplitr [HO]
    · isplitl [Hd6]; · iexact Hd6
      isplitl [Hd4]; · iexact Hd4
      iexact Hd2
    iexact HO
  iintro HO
  iapply (handshake T K c rfl) $$ [HcB HaB HO]
  · isplitr; · iexact HR
    isplitr; · iexact Hlev
    isplitl [HcB]; · iexact HcB
    isplitl [HaB] <;> iassumption
  unfold barPay
  iintro ⟨HzB, ⟨⟨Hp0, Hp7, Hp5⟩, ⟨Hp3, Hp1, Hp8⟩, ⟨Hp6, Hp4, Hp2⟩⟩, HO⟩
  -- the first round, from the staged block
  iapply (wp_load 𝒱₀ (c : Thread nD τ) none Set.univ (m := (Memref.whole cc0_stg0_0 : Memref sig .tc .vmem S512x256 .bf16)) (Finset.subset_univ _)) $$ Hx; iintro Hx
  iapply (begin_exchange T K c 0 _ (copy0_dev c) (pay1_apply T c)) $$ [He0 Hp0 HO]
  · isplitr; · iexact HR
    isplitl [He0]; · iexact He0
    isplitl [Hp0]; · iexact Hp0
    iexact HO
  iintro ⟨He0, HO⟩
  iapply (wp_load 𝒱₀ (c : Thread nD τ) none Set.univ (m := (Memref.whole cc0_stg0_0 : Memref sig .tc .vmem S512x256 .bf16)) (Finset.subset_univ _)) $$ Hx; iintro Hx
  iapply (begin_exchange T K c 1 _ (copy1_dev c) (pay2_apply T c)) $$ [He1 Hp1 HO]
  · isplitr; · iexact HR
    isplitl [He1]; · iexact He1
    isplitl [Hp1]; · iexact Hp1
    iexact HO
  iintro ⟨He1, HO⟩
  iapply (wp_load 𝒱₀ (c : Thread nD τ) none Set.univ (m := (Memref.whole cc0_stg0_0 : Memref sig .tc .vmem S512x256 .bf16)) (Finset.subset_univ _)) $$ Hx; iintro Hx
  iapply (begin_exchange T K c 2 _ (copy2_dev c) (pay3_apply T c)) $$ [He2 Hp2 HO]
  · isplitr; · iexact HR
    isplitl [He2]; · iexact He2
    isplitl [Hp2]; · iexact Hp2
    iexact HO
  iintro ⟨He2, HO⟩
  iapply (wp_load 𝒱₀ (c : Thread nD τ) none Set.univ (m := (Memref.whole cc0_stg1_0 : Memref sig .tc .vmem S256x256 .bf16)) (Finset.subset_univ _)) $$ Hw; iintro Hw
  rw [show (Memref.whole cc0_stg1_0 : Memref sig .tc .vmem S256x256 .bf16).view.readAt (Elt F) _ Wt = Wt from Memref.readAt_unit_zero (Elt F) cc0_stg1_0 start_plane _ Wt]
  -- the second and third rounds, each on what the one before left
  iapply (turn T K c 0 3 _ (copy3_dev c) (by decide) (fun a b => k0_pay6 (k0_pay5 a b)) (pay6_apply T c)) $$ [He0 He3 Hp3 HO]
  · isplitr; · iexact HR
    isplitr; · iexact Hlev
    isplitl [He0]; · iexact He0
    isplitl [He3]; · iexact He3
    isplitl [Hp3]; · iexact Hp3
    iexact HO
  iintro ⟨He0, He3, HO⟩
  iapply (turn T K c 1 4 _ (copy4_dev c) (by decide) (fun a b => k0_pay8 (k0_pay7 a) b) (pay8_apply T c)) $$ [He1 He4 Hp4 HO]
  · isplitr; · iexact HR
    isplitr; · iexact Hlev
    isplitl [He1]; · iexact He1
    isplitl [He4]; · iexact He4
    isplitl [Hp4]; · iexact Hp4
    iexact HO
  iintro ⟨He1, He4, HO⟩
  iapply (turn T K c 2 5 _ (copy5_dev c) (by decide) (fun a b => k0_pay9 a b) (pay9_apply T c)) $$ [He2 He5 Hp5 HO]
  · isplitr; · iexact HR
    isplitr; · iexact Hlev
    isplitl [He2]; · iexact He2
    isplitl [He5]; · iexact He5
    isplitl [Hp5]; · iexact Hp5
    iexact HO
  iintro ⟨He2, He5, HO⟩
  iapply (turn T K c 3 6 _ (copy6_dev c) (by decide) (fun a b => k0_pay10 a b) (pay10_apply T c)) $$ [He3 He6 Hp6 HO]
  · isplitr; · iexact HR
    isplitr; · iexact Hlev
    isplitl [He3]; · iexact He3
    isplitl [He6]; · iexact He6
    isplitl [Hp6]; · iexact Hp6
    iexact HO
  iintro ⟨He3, He6, HO⟩
  iapply (turn T K c 4 7 _ (copy7_dev c) (by decide) (fun a b => k0_pay11 a b) (pay11_apply T c)) $$ [He4 He7 Hp7 HO]
  · isplitr; · iexact HR
    isplitr; · iexact Hlev
    isplitl [He4]; · iexact He4
    isplitl [He7]; · iexact He7
    isplitl [Hp7]; · iexact Hp7
    iexact HO
  iintro ⟨He4, He7, HO⟩
  iapply (turn T K c 5 8 _ (copy8_dev c) (by decide) (fun a b => k0_pay12 a b) (pay12_apply T c)) $$ [He5 He8 Hp8 HO]
  · isplitr; · iexact HR
    isplitr; · iexact Hlev
    isplitl [He5]; · iexact He5
    isplitl [He8]; · iexact He8
    isplitl [Hp8]; · iexact Hp8
    iexact HO
  iintro ⟨He5, He8, HO⟩
  -- the last round lands
  iapply (arrive T K c 6 0 (by decide)) $$ [He6 HO]
  · isplitr; · iexact HR
    isplitr; · iexact Hlev
    isplitl [He6]; · iexact He6
    iexact HO
  iintro ⟨He6, HO⟩
  iapply (arrive T K c 7 0 (by decide)) $$ [He7 HO]
  · isplitr; · iexact HR
    isplitr; · iexact Hlev
    isplitl [He7] <;> iassumption
  iintro ⟨He7, HO⟩
  iapply (arrive T K c 8 0 (by decide)) $$ [He8 HO]
  · isplitr; · iexact HR
    isplitr; · iexact Hlev
    isplitl [He8] <;> iassumption
  iintro ⟨He8, HO⟩
  iapply (read_top T c) $$ [He6 He7 He8]
  · isplitl [He6]; · iexact He6
    isplitl [He7] <;> iassumption
  iintro ⟨He6, He7, He8⟩
  -- the product
  iapply (wp_load 𝒱₀ (c : Thread nD τ) none Set.univ (m := (Memref.whole cc0_stg2_0 : Memref sig .tc .vmem S512x256 .f32)) (Finset.subset_univ _)) $$ Ho; iintro Ho
  iapply (wp_store 𝒱₀ (c : Thread nD τ) none Set.univ (m := (Memref.whole cc0_stg2_0 : Memref sig .tc .vmem S512x256 .f32))
    (r := outRect) (Mk := Finset.univ) (Finset.subset_univ _)) $$ Ho; iintro Ho
  rw [store_out]
  -- the copies have left
  iapply (leave T K c 0) $$ [He0 HO]
  · isplitr; · iexact HR
    isplitl [He0]; · iexact He0
    iexact HO
  iintro ⟨He0, HO⟩
  iapply (leave T K c 1) $$ [He1 HO]
  · isplitr; · iexact HR
    isplitl [He1]; · iexact He1
    iexact HO
  iintro ⟨He1, HO⟩
  iapply (leave T K c 2) $$ [He2 HO]
  · isplitr; · iexact HR
    isplitl [He2]; · iexact He2
    iexact HO
  iintro ⟨He2, HO⟩
  iapply (leave T K c 3) $$ [He3 HO]
  · isplitr; · iexact HR
    isplitl [He3]; · iexact He3
    iexact HO
  iintro ⟨He3, HO⟩
  iapply (leave T K c 4) $$ [He4 HO]
  · isplitr; · iexact HR
    isplitl [He4]; · iexact He4
    iexact HO
  iintro ⟨He4, HO⟩
  iapply (leave T K c 5) $$ [He5 HO]
  · isplitr; · iexact HR
    isplitl [He5]; · iexact He5
    iexact HO
  iintro ⟨He5, HO⟩
  iapply (leave T K c 6) $$ [He6 HO]
  · isplitr; · iexact HR
    isplitl [He6]; · iexact He6
    iexact HO
  iintro ⟨He6, HO⟩
  iapply (leave T K c 7) $$ [He7 HO]
  · isplitr; · iexact HR
    isplitl [He7]; · iexact He7
    iexact HO
  iintro ⟨He7, HO⟩
  iapply (leave T K c 8) $$ [He8 HO]
  · isplitr; · iexact HR
    isplitl [He8]; · iexact He8
    iexact HO
  iintro ⟨He8, HO⟩
  unfold goes; rw [wp_ret]; imodintro
  iapply Hk
  isplitl [HzB He0 He1 He2 He3 He4 He5 He6 He7 He8 HO]
  · unfold after
    rw [bigSep_nine]
    isplitl [HzB]; · iexact HzB
    isplitr [HO]
    · isplitl [He0]; · iexact He0
      isplitl [He1]; · iexact He1
      isplitl [He2]; · iexact He2
      isplitl [He3]; · iexact He3
      isplitl [He4]; · iexact He4
      isplitl [He5]; · iexact He5
      isplitl [He6]; · iexact He6
      isplitl [He7] <;> iassumption
    iexact HO
  isplitl [Hx]; · iexact Hx
  isplitl [Hw]; · iexact Hw
  iexact Ho

end Cert.Cube

end
-- ==== Proof.Deal.lean ====
/-
  What the launch deals each device. The launch mints the ghost state of all 8 × 19 cells and of every duty; one step over
  all devices puts each cell's invariant in place under some name, and sends each duty's token to the device that pays it:
  barrier duty `i` across mask `i`, the receive duty of exchange `s` across that exchange's mask.
-/
module

public import proofs.«01_k».proof.Proof.Body

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Tiles F)

/-! ## The cells and the duties, listed -/

theorem sendIx_injective : Function.Injective sendIx := by decide
theorem recvIx_injective : Function.Injective recvIx := by decide
theorem all_cells : (Finset.univ : Finset (Fin 19))
    = insert 0 (Finset.univ.map ⟨sendIx, sendIx_injective⟩ ∪ Finset.univ.map ⟨recvIx, recvIx_injective⟩) := by decide

omit [FloatOps F] in
/-- Over a device's nineteen cells: the barrier's, the send cells, the receive cells. -/
theorem bigSep_cells (Φ : Fin 19 → sProp 𝕄) :
    bigSep Finset.univ Φ = iprop(Φ 0 ∗ (bigSep Finset.univ fun s : Fin 9 => Φ (sendIx s)) ∗ bigSep Finset.univ fun s : Fin 9 => Φ (recvIx s)) := by
  rw [all_cells, bigSep_insert (by decide), bigSep_union (by rw [Finset.disjoint_left]; decide), bigSep_map, bigSep_map]
  rfl

omit [FloatOps F] in
/-- Two ranges in either order. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]
  rfl

theorem csem_injective : Function.Injective csem := by decide
theorem kcell_injective : Function.Injective kcell := by
  rintro ⟨c, k⟩ ⟨c', k'⟩ h
  exact Prod.ext (congrArg (fun g : GSem nD τ sig => g.1.1) h) (csem_injective (congrArg Prod.snd h))
def allCells : Finset (GSem nD τ sig) := Finset.univ.map ⟨kcell, kcell_injective⟩

/-- A device's own cells' duties: the barrier's three, the send cells', the receive cells'. -/
abbrev Duty : Type := Fin 3 ⊕ Fin 9 ⊕ Fin 9
def dutySem : Duty → SemLoc sig × Fin 3 :=
  Sum.elim (fun i => (.reg barS, i)) (Sum.elim (fun s => (.dma (sendS s), 0)) fun s => (.dma (recvS s), 0))
theorem dutySem_injective : Function.Injective dutySem := by decide
def dutyOf (x : Dev nD × Duty) : GSem nD τ sig × ℕ × Fin 3 := (((x.1 : Thread nD τ), (dutySem x.2).1), 0, (dutySem x.2).2)
theorem dutyOf_injective : Function.Injective dutyOf := by
  rintro ⟨c, d⟩ ⟨c', d'⟩ h
  refine Prod.ext (congrArg (fun x : GSem nD τ sig × ℕ × Fin 3 => x.1.1.1) h) (dutySem_injective ?_)
  exact congrArg (fun x : GSem nD τ sig × ℕ × Fin 3 => (x.1.2, x.2.2)) h
def allDuties : Finset (GSem nD τ sig × ℕ × Fin 3) := Finset.univ.map ⟨dutyOf, dutyOf_injective⟩

/-- The launch element: the staging library's own, beside the exchanges'. -/
def u₀ : UU := (initOf (Pipeline.cells cfgs cellOf_inj) (Pipeline.launchToks cfgs cellOf_inj), initOf allCells allDuties)

/-! ## What is minted -/

/-- The tokens of device `c`'s own cells' duties; -/
def ownToks (c : Dev nD) : sProp 𝕄 :=
  iprop((bigSep Finset.univ fun i : Fin 3 => dutyTok ER (barCell c) 0 i)
    ∗ (bigSep Finset.univ fun s : Fin 9 => dutyTok ER (sendCell c s) 0 0) ∗ bigSep Finset.univ fun s : Fin 9 => dutyTok ER (recvCell c s) 0 0)
/-- the tokens of the duties device `c` pays. -/
def payToks (c : Dev nD) : sProp 𝕄 :=
  iprop((bigSep Finset.univ fun i : Fin 3 => dutyTok ER (barCell (peer i c)) 0 i)
    ∗ (bigSep Finset.univ fun s : Fin 9 => dutyTok ER (sendCell c s) 0 0) ∗ bigSep Finset.univ fun s : Fin 9 => dutyTok ER (recvCell (peer (mask s) c) s) 0 0)

/-- A device's cells each in its first state; -/
def states (c : Dev nD) : sProp 𝕄 := bigSep Finset.univ fun k : Fin 19 => roundState ER (sched T) (kcell (c, k)) 0
/-- its positions at its cells; -/
def positions (c : Dev nD) : sProp 𝕄 := bigSep Finset.univ fun k : Fin 19 => atPos ER (kcell (c, k)) 0 ∅ 0
/-- its cells' first round reached. -/
def marks (c : Dev nD) : sProp 𝕄 := bigSep Finset.univ fun k : Fin 19 => reached ER (kcell (c, k)) 0

/-- What device `c` is dealt. -/
def dealt (c : Dev nD) : sProp 𝕄 := iprop(states T c ∗ positions c ∗ marks c ∗ ownToks c)

omit [FloatOps F] in
theorem over_cells (Φ : GSem nD τ sig → sProp 𝕄) :
    bigSep allCells Φ = bigSep Finset.univ fun c : Dev nD => bigSep Finset.univ fun k : Fin 19 => Φ (kcell (c, k)) := by
  unfold allCells; rw [bigSep_map, bigSep_univ_prod]; rfl

omit [FloatOps F] in
theorem over_duties : bigSep allDuties (fun x => (dutyTok ER x.1 x.2.1 x.2.2 : sProp 𝕄)) = bigSep Finset.univ fun c : Dev nD => ownToks c := by
  unfold allDuties; rw [bigSep_map, bigSep_univ_prod]
  exact bigSep_congr fun c _ => by rw [bigSep_univ_sum, bigSep_univ_sum]; rfl

theorem mint : BI.own (ER (initOf allCells allDuties)) ⊢ (|==> bigSep Finset.univ (dealt T) : sProp 𝕄) := by
  iintro H
  imod (Rounds.fund ER (sched T) allCells allDuties) $$ H with ⟨Hst, Hr, Hat, Htok⟩
  imodintro
  ihave Hst' := (Entails.of_eq (over_cells fun g => roundState ER (sched T) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_duties) $$ Htok
  unfold dealt; simp only [bigSep_sep']
  isplitl [Hst']; · iexact Hst'
  isplitl [Hat']; · iexact Hat'
  isplitl [Hr']; · iexact Hr'
  iexact Htok'

/-! ## The step over all devices -/

/-- The kernel's own semaphores: the send and the receive ones. -/
def osem : Fin 9 ⊕ Fin 9 → SemLoc sig := Sum.elim (fun s => .dma (sendS s)) fun s => .dma (recvS s)

abbrev ownSems (c : Dev nD) : sProp 𝕄 := Pipeline.ownSems0 osem c

omit [FloatOps F] in
theorem ownSems_eq (c : Dev nD) :
    (ownSems c : sProp 𝕄) = iprop((bigSep Finset.univ fun s : Fin 9 => semVal (sendCell c s) 0) ∗ bigSep Finset.univ fun s : Fin 9 => semVal (recvCell c s) 0) := by
  unfold ownSems Pipeline.ownSems0; rw [bigSep_univ_sum]; rfl
omit [FloatOps F] in
/-- The barrier's is the one semaphore that outlives the kernel. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_zero (c : Dev nD) :
    iprop(ownSems c ∗ unscopedSems0 c) ⊢ (bigSep Finset.univ fun k : Fin 19 => semVal (kcell (c, k)) 0 : sProp 𝕄) := by
  rw [ownSems_eq, unscoped_eq, bigSep_cells]
  simp only [kcell_bar, kcell_send, kcell_recv]
  iintro ⟨⟨HS, HV⟩, HB⟩
  isplitl [HB]; · iexact HB
  isplitl [HS] <;> iassumption

/-- Each cell's invariant, at some name. -/
def placed (c : Dev nD) : sProp 𝕄 := bigSep Finset.univ fun k : Fin 19 => iprop(∃ κ : ℕ, cellInv ER (sched T) κ (kcell (c, k)))

theorem place (c : Dev nD) : iprop((bigSep Finset.univ fun k : Fin 19 => semVal (kcell (c, k)) 0) ∗ states T c) ⊢ (|={Set.univ}=> placed T c : sProp 𝕄) := by
  unfold states placed
  rw [← bigSep_sep']
  exact (bigSep_mono fun k _ => (Rounds.body_intro ER (sched T) (kcell (c, k))).trans inv_alloc).trans (bigSep_fupd _ _)

theorem place_device (c : Dev nD) :
    iprop(ownSems c ∗ unscopedSems0 c ∗ dealt T c) ⊢ (|={Set.univ}=> iprop(placed T c ∗ positions c ∗ marks c ∗ ownToks c) : sProp 𝕄) := by
  unfold dealt
  iintro ⟨Hos, Hus, Hst, Hrest⟩
  ihave Hv := (sems_zero c) $$ [Hos Hus]
  · isplitl [Hos] <;> iassumption
  imod (place T c) $$ [Hv Hst] with Hinv
  · isplitl [Hv] <;> iassumption
  imodintro
  isplitl [Hinv] <;> iassumption

omit [FloatOps F] in
/-- Each token to the device that pays it. -/
theorem toks_cross : (bigSep Finset.univ fun c : Dev nD => (ownToks c : sProp 𝕄)) ⊢ bigSep Finset.univ fun c : Dev nD => payToks c := by
  have hb : (bigSep Finset.univ fun c : Dev nD => bigSep Finset.univ fun i : Fin 3 => (dutyTok ER (barCell c) 0 i : sProp 𝕄))
      = bigSep Finset.univ fun c : Dev nD => bigSep Finset.univ fun i : Fin 3 => dutyTok ER (barCell (peer i c)) 0 i := by
    rw [bigSep_swap, bigSep_swap fun (c : Dev nD) (i : Fin 3) => (dutyTok ER (barCell (peer i c)) 0 i : sProp 𝕄)]
    exact bigSep_congr fun i _ => bigSep_univ_equiv (cross i) _
  have hr : (bigSep Finset.univ fun c : Dev nD => bigSep Finset.univ fun s : Fin 9 => (dutyTok ER (recvCell c s) 0 0 : sProp 𝕄))
      = bigSep Finset.univ fun c : Dev nD => bigSep Finset.univ fun s : Fin 9 => dutyTok ER (recvCell (peer (mask s) c) s) 0 0 := by
    rw [bigSep_swap, bigSep_swap fun (c : Dev nD) (s : Fin 9) => (dutyTok ER (recvCell (peer (mask s) c) s) 0 0 : sProp 𝕄)]
    exact bigSep_congr fun s _ => bigSep_univ_equiv (cross (mask s)) _
  unfold ownToks payToks
  rw [bigSep_sep', bigSep_sep', bigSep_sep', bigSep_sep', hb, hr]

/-- An exchange's share of the ghost state: its two positions and the two duties its copy pays. -/
def prepared (c : Dev nD) (s : Fin 9) : sProp 𝕄 :=
  iprop(atPos ER (recvCell c s) 0 ∅ 0 ∗ atPos ER (sendCell c s) 0 ∅ 0 ∗ dutyTok ER (sendCell c s) 0 0 ∗ dutyTok ER (recvCell (peer (mask s) c) s) 0 0)

/-- The ghost state device `c` starts from. -/
def ghost (K : Dev nD × Fin 19 → ℕ) (c : Dev nD) : sProp 𝕄 :=
  iprop(records T K ∗ atPos ER (barCell c) 0 ∅ 0 ∗ (bigSep Finset.univ fun i : Fin 3 => dutyTok ER (barCell (peer i c)) 0 i)
    ∗ bigSep Finset.univ fun s : Fin 9 => prepared c s)
def ghosts (c : Dev nD) : sProp 𝕄 := iprop(∃ K, ghost T K c)

theorem ghost_intro (K : Dev nD × Fin 19 → ℕ) (c : Dev nD) : iprop(records T K ∗ positions c ∗ payToks c) ⊢ ghosts T c := by
  unfold positions payToks ghosts ghost prepared
  rw [bigSep_cells]
  simp only [kcell_bar, kcell_send, kcell_recv, bigSep_sep']
  iintro ⟨#HR, ⟨HaB, HaS, HaV⟩, HtB, HtS, HtV⟩
  iexists K
  isplitr; · iexact HR
  isplitl [HaB]; · iexact HaB
  isplitl [HtB]; · iexact HtB
  isplitl [HaV]; · iexact HaV
  isplitl [HaS]; · iexact HaS
  isplitl [HtS] <;> iassumption

theorem regroup : (bigSep Finset.univ fun c : Dev nD => iprop(placed T c ∗ positions c ∗ marks c ∗ ownToks c) : sProp 𝕄) ⊢ bigSep Finset.univ (ghosts T) := by
  have hI : (bigSep Finset.univ fun c : Dev nD => (placed T c : sProp 𝕄))
      = bigSep Finset.univ fun ck : Dev nD × Fin 19 => iprop(∃ κ : ℕ, cellInv ER (sched T) κ (kcell ck)) :=
    (bigSep_univ_prod fun ck : Dev nD × Fin 19 => iprop(∃ κ : ℕ, cellInv ER (sched T) κ (kcell ck))).symm
  have hR : (bigSep Finset.univ fun c : Dev nD => (marks c : sProp 𝕄)) = bigSep Finset.univ fun ck : Dev nD × Fin 19 => reached ER (kcell ck) 0 :=
    (bigSep_univ_prod fun ck : Dev nD × Fin 19 => (reached ER (kcell ck) 0 : sProp 𝕄)).symm
  rw [bigSep_sep', bigSep_sep', bigSep_sep', hI, hR]
  iintro ⟨HI, Hat, #HR, Htok⟩
  ihave HK := (BI.bigSep_exists_pi Finset.univ (fun (ck : Dev nD × Fin 19) (κ : ℕ) => (cellInv ER (sched T) κ (kcell ck) : sProp 𝕄))) $$ HI
  icases HK with ⟨%K, #HI⟩
  ihave Htk := toks_cross $$ Htok
  iapply (bigSep_with_persistent (R := records T K) fun c _ => ghost_intro T K c)
  isplitr
  · unfold records; isplitl; · iexact HI
    iexact HR
  rw [bigSep_sep']
  isplitl [Hat]; · iexact Hat
  iexact Htk

theorem deal : (bigSep Finset.univ fun c => iprop(ownSems c ∗ unscopedSems0 c ∗ dealt T c) : sProp 𝕄) ⊢ |={Set.univ}=> bigSep Finset.univ (ghosts T) :=
  ((bigSep_mono fun c _ => place_device T c).trans (bigSep_fupd _ _)).trans (BI.fupd_mono (regroup T))

/-! ## The launch credit -/

omit [FloatOps F] in
theorem owedCopies_sum (c : Dev nD) : owedCopies c 9 = ∑ s : Fin 9, tallyAt (recvCell (peer (mask s) c) s) () (amt s) := by
  have h : ∀ k, owedCopies c k
      = ∑ j ∈ Finset.range k, tallyAt (recvCell (peer (mask (Fin.ofNat 9 (8 - j))) c) (Fin.ofNat 9 (8 - j))) () (amt (Fin.ofNat 9 (8 - j))) := by
    intro k
    induction k with
    | zero => rfl
    | succ k ih => rw [Finset.sum_range_succ, ← ih]; rfl
  rw [h, Finset.sum_range, ← Equiv.sum_comp (⟨Fin.rev, Fin.rev, Fin.rev_rev, Fin.rev_rev⟩ : Fin 9 ≃ Fin 9)]
  exact Finset.sum_congr rfl fun s _ => by
    have e : Fin.ofNat 9 (8 - (Fin.rev s).val) = s := by revert s; decide
    show (tallyAt (recvCell (peer (mask (Fin.ofNat 9 (8 - (Fin.rev s).val))) c) (Fin.ofNat 9 (8 - (Fin.rev s).val))) ()
      (amt (Fin.ofNat 9 (8 - (Fin.rev s).val))) : CellTallies nD τ sig Unit) = _
    rw [e]

omit [FloatOps F] in
theorem owed3_sum (c : Dev nD) :
    owed3 c = (∑ s : Fin 9, tallyAt (recvCell (peer (mask s) c) s) () (amt s)) + ∑ i : Fin 3, tallyAt (barCell (peer i c)) () 1 := by
  unfold owed3 owed2 owed1
  rw [owedCopies_sum, Fin.sum_univ_three]
  ac_rfl

/-- What device `c`'s own waits need: three units at its barrier, each exchange's credit at its receive cell. -/
def ownCredit (c : Dev nD) : CellTallies nD τ sig Unit :=
  (∑ s : Fin 9, tallyAt (recvCell c s) () (amt s)) + tallyAt (barCell c) () 3

omit [FloatOps F] in
/-- All that is owed is all that is waited for. -/
theorem owed_sum : (∑ d, owed3 d) = ∑ d, ownCredit d := by
  have hr : (∑ d : Dev nD, ∑ s : Fin 9, (tallyAt (recvCell (peer (mask s) d) s) () (amt s) : CellTallies nD τ sig Unit))
      = ∑ d : Dev nD, ∑ s : Fin 9, tallyAt (recvCell d s) () (amt s) := by
    rw [Finset.sum_comm, Finset.sum_comm (f := fun (d : Dev nD) (s : Fin 9) => (tallyAt (recvCell d s) () (amt s) : CellTallies nD τ sig Unit))]
    exact Finset.sum_congr rfl fun s _ => Equiv.sum_comp (cross (mask s)) fun d => (tallyAt (recvCell d s) () (amt s) : CellTallies nD τ sig Unit)
  have hb : (∑ d : Dev nD, ∑ i : Fin 3, (tallyAt (barCell (peer i d)) () 1 : CellTallies nD τ sig Unit)) = ∑ d : Dev nD, tallyAt (barCell d) () 3 := by
    have hi (i : Fin 3) (_ : i ∈ Finset.univ) : (∑ d : Dev nD, (tallyAt (barCell (peer i d)) () 1 : CellTallies nD τ sig Unit)) = ∑ d, tallyAt (barCell d) () 1 :=
      Equiv.sum_comp (cross i) fun d => (tallyAt (barCell d) () 1 : CellTallies nD τ sig Unit)
    rw [Finset.sum_comm, Finset.sum_congr rfl hi, Finset.sum_comm]
    exact Finset.sum_congr rfl fun d _ => by rw [Fin.sum_univ_three, tallyAt_add, tallyAt_add]
  unfold ownCredit
  simp only [owed3_sum, Finset.sum_add_distrib]
  rw [hr, hb]

omit [FloatOps F] in
theorem ownCredit_own (c : Dev nD) (g : GSem nD τ sig) (h : ownCredit c g ≠ 0) : g.1 = (c.tc : Thread nD τ) := by
  by_contra hn
  refine h (Finsupp.ext fun u => ?_)
  have away (sm : SemLoc sig) (n : ℕ) : (tallyAt ((c : Thread nD τ), sm) () n : CellTallies nD τ sig Unit) g u = 0 := by
    rw [tallyAt_apply, if_neg fun h' => hn (congrArg Prod.fst h'.1)]
  unfold ownCredit
  rw [Pi.add_apply, Finset.sum_apply, Finsupp.add_apply, Finsupp.finsetSum_apply, away, Finset.sum_eq_zero fun s _ => away _ _]
  rfl

omit [FloatOps F] in
theorem credits (c : Dev nD) :
    (Pipeline.launchCred owed3 c : sProp 𝕄)
      ⊢ iprop((bigSep Finset.univ fun s : Fin 9 => cred (tallyAt (recvCell c s) () (amt s))) ∗ cred (tallyAt (barCell c) () 3)) := by
  rw [Pipeline.launchCred_of_sum owed3 ownCredit owed_sum ownCredit_own c]
  unfold ownCredit
  rw [← Pipeline.cred_finsetSum]
  exact (cred_add _ _).1

end Cert.Cube

end
-- ==== Proof.Launch.lean ====
/-
  The run of the whole program, for any float values: from any memory with its counters at zero, the eight devices' kernels
  end, each result array holds what its device computed from all eight blocks, the arguments are as they were, and every
  counter is zero again.
-/
module

public import proofs.«01_k».proof.Proof.Deal
public import proofs.«01_k».proof.Proof.Gen.KernelIdeal.Points
public import Idealize.ShloMosaic.Lib.Pipeline.CollectiveSegs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The state the program starts from. -/
def s₀ : MemSt nD τ sig (Elt F) := ⟨m, fun _ => 0, ρ⟩

/-- The eight blocks of the first argument, as staged; -/
def tiles : Tiles F := fun c => (win0_0.blk (0 : Fin 1)).view.read (Elt F) (m ((c : Thread nD τ).loc main_arg0))
/-- the second argument, as staged. -/
def weight (c : Dev nD) : S256x256.Idx → Elt F .bf16 := (win0_1.blk (0 : Fin 1)).view.read (Elt F) (m ((c : Thread nD τ).loc main_arg1))
/-- A device's result. -/
def result (c : Dev nD) : S512x256.Idx → Elt F .f32 := outOf (tiles m) (weight m c) c

/-- Device `c` before its body, without its scratch: its ghost state, its credits and the levels; -/
def start (c : Dev nD) : sProp 𝕄 :=
  iprop(ghosts (tiles m) c ∗ ((bigSep Finset.univ fun s : Fin 9 => cred (tallyAt (recvCell c s) () (amt s))) ∗ cred (tallyAt (barCell c) () 3)) ∗ levAts L lv)
/-- with its scratch; -/
def entry (c : Dev nD) : sProp 𝕄 :=
  iprop(start m c ∗ (bigSep Finset.univ fun s : Fin 9 => sendAny c s) ∗ bigSep Finset.univ fun s : Fin 9 => recvAny c s)
/-- and after it. -/
def exit (c : Dev nD) : sProp 𝕄 := iprop(semVal (barCell c) 0 ∗ bigSep Finset.univ fun s : Fin 9 => done (tiles m) c s)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tiles m c
    | ⟨1, _⟩ => weight m c
    | ⟨2, _⟩ => result m c
  Φ t := match t with
    | ⟨0, _⟩ => entry m c
    | ⟨_ + 1, _⟩ => exit m c
  q _ := fullShare
  owed t := match t with
    | ⟨0, _⟩ => owed3 c
    | ⟨_ + 1, _⟩ => 0

omit [FloatOps F] in
/-- Owning a whole buffer is its cells at those contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
  refine Entails.antisymm (show _ ⊢ (_ : sProp 𝕄) from ?_) (show _ ⊢ (_ : sProp 𝕄) from ?_)
  · iintro ⟨%f, %e, H⟩; rw [← e]; iexact H
  · iintro H; iexists X; isplitr; · (ipureintro; rfl)
    iexact H

/-! ## The body -/

set_option maxRecDepth 8000 in
/-- What the body starts from, buffer by buffer. -/
def bodyPre (c : Dev nD) : sProp 𝕄 :=
  iprop(entry m c ∗ (dats m ρ 0 c).owesAt () (t0_0 : Fin cfg0.N).castSucc
    ∗ (∃ d, stg c cc0_stg0_0 ((dats m ρ 0 c).before (0 : Fin 3) t0_0 d)) ∗ (∃ d, stg c cc0_stg1_0 ((dats m ρ 0 c).before (1 : Fin 3) t0_0 d))
    ∗ (∃ d, stg c cc0_stg2_0 ((dats m ρ 0 c).before (2 : Fin 3) t0_0 d)))
set_option maxRecDepth 8000 in
/-- What it ends in. -/
def bodyPost (c : Dev nD) : sProp 𝕄 :=
  iprop(exit m c ∗ (dats m ρ 0 c).owesAt () (t0_0 : Fin cfg0.N).succ
    ∗ stg c cc0_stg0_0 (tiles m c) ∗ stg c cc0_stg1_0 (weight m c) ∗ stg c cc0_stg2_0 (result m c))

theorem before_x (c : Dev nD) (d) : (dats m ρ 0 c).before (0 : Fin 3) t0_0 d = tiles m c := by
  unfold Dat.before; rw [if_pos (fetch0_0 t0_0)]; rfl
theorem before_w (c : Dev nD) (d) : (dats m ρ 0 c).before (1 : Fin 3) t0_0 d = weight m c := by
  unfold Dat.before; rw [if_pos (fetch0_1 t0_0)]; rfl

/-- An exchange is ready once it has its ghost state, its credit and its send slot. -/
theorem ready_intro (c : Dev nD) :
    iprop((bigSep Finset.univ fun s : Fin 9 => prepared c s) ∗ (bigSep Finset.univ fun s : Fin 9 => cred (tallyAt (recvCell c s) () (amt s)))
        ∗ bigSep Finset.univ fun s : Fin 9 => sendAny c s)
      ⊢ (bigSep Finset.univ fun s : Fin 9 => ready c s : sProp 𝕄) := by
  rw [← bigSep_sep', ← bigSep_sep']
  refine bigSep_mono fun s _ => (show _ ⊢ (_ : sProp 𝕄) from ?_)
  unfold prepared ready
  iintro ⟨⟨HaV, HaS, HtS, HtV⟩, Hc, Hs⟩
  isplitl [HaV]; · iexact HaV
  isplitl [Hc]; · iexact Hc
  isplitl [HaS]; · iexact HaS
  isplitl [HtS]; · iexact HtS
  isplitl [HtV] <;> iassumption

set_option maxRecDepth 8000 in
theorem body_from (c : Dev nD) :
    bodyPre m ρ c ⊢ goes c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) fun _ => bodyPost m ρ c := by
  unfold bodyPre entry start ghosts ghost Dat.owesAt Pipeline.owesWithin
  rw [show (dats m ρ 0 c).owed (t0_0 : Fin cfg0.N).castSucc = owed3 c from rfl]
  iintro ⟨⟨⟨⟨%K, #HR, HaB, HtB, Hp⟩, ⟨Hcr, HcB⟩, #Hlev⟩, Hsnd, Hrcv⟩, ⟨%W, -, HO⟩, ⟨%d0, Hx⟩, ⟨%d1, Hw⟩, ⟨%d2, Ho⟩⟩
  ihave Hx' := (Entails.of_eq (congrArg (stg c cc0_stg0_0) (before_x m ρ c d0))) $$ Hx
  ihave Hw' := (Entails.of_eq (congrArg (stg c cc0_stg1_0) (before_w m ρ c d1))) $$ Hw
  ihave Hre := (ready_intro c) $$ [Hp Hcr Hsnd]
  · isplitl [Hp]; · iexact Hp
    isplitl [Hcr] <;> iassumption
  iapply (body_runs (tiles m) K c (weight m c) ((dats m ρ 0 c).before (2 : Fin 3) t0_0 d2) fun _ => bodyPost m ρ c)
  unfold before owing
  isplitl [HcB HaB HtB Hre Hrcv HO]
  · isplitr; · iexact HR
    isplitr; · iexact Hlev
    isplitl [HcB]; · iexact HcB
    isplitl [HaB]; · iexact HaB
    isplitl [HtB]; · iexact HtB
    isplitl [Hre]; · iexact Hre
    isplitl [Hrcv]; · iexact Hrcv
    iexists W; iexact HO
  isplitl [Hx']; · iexact Hx'
  isplitl [Hw']; · iexact Hw'
  isplitl [Ho]; · iexact Ho
  unfold after owing bodyPost exit Dat.owesAt Pipeline.owesWithin
  rw [show (dats m ρ 0 c).owed (t0_0 : Fin cfg0.N).succ = 0 from rfl]
  iintro ⟨⟨HzB, Hd, ⟨%W', HO⟩⟩, Hx, Hw, Ho⟩
  isplitl [HzB Hd]
  · isplitl [HzB] <;> iassumption
  isplitl [HO]
  · iexists W'
    isplitr; · ipureintro; exact fun _ _ => Or.inl trivial
    iexact HO
  isplitl [Hx]; · iexact Hx
  isplitl [Hw]; · iexact Hw
  iexact Ho

set_option maxRecDepth 8000 in
theorem body_obligation (c : Dev nD) : BodyObligation (dats (F := F) m ρ 0 c) (defs₀ (F := F)) 𝒱₀ () Set.univ := fun t => by
  rw [show t = (t0_0 : Fin cfg0.N) from fin_N0 t]
  rw [bigSep_W0, bigSep_W0]
  simp only [owns_whole]
  exact body_from m ρ c

/-! ## The side conditions of the launch -/

theorem ownSemFacts : Pipeline.OwnSemFacts cfg0.spec osem := by decide

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed3 c ∗ prngReg c (ρ c) ∗ ghosts (tiles m) c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

omit [FloatOps F] in
theorem send_slots (c : Dev nD) (f : Box F) :
    (((c : Thread nD τ).loc cc0_scratch0 ↦{fullShare} f : sProp 𝕄)) = bigSep Finset.univ fun s : Fin 9 => ((c : Thread nD τ).loc cc0_scratch0 ↦[slotSet s]{fullShare} f) := by
  rw [← slot_cover]; exact pointsTo_biUnion _ _ fun s _ t _ h => slot_disjoint h
omit [FloatOps F] in
theorem recv_slots (c : Dev nD) (f : Box F) :
    (((c : Thread nD τ).loc cc0_scratch1 ↦{fullShare} f : sProp 𝕄)) = bigSep Finset.univ fun s : Fin 9 => ((c : Thread nD τ).loc cc0_scratch1 ↦[slotSet s]{fullShare} f) := by
  rw [← slot_cover]; exact pointsTo_biUnion _ _ fun s _ t _ h => slot_disjoint h

omit [FloatOps F] in
theorem send_any (c : Dev nD) (f : Box F) :
    (((c : Thread nD τ).loc cc0_scratch0 ↦{fullShare} f : sProp 𝕄)) ⊢ bigSep Finset.univ fun s : Fin 9 => sendAny c s := by
  rw [send_slots]
  refine bigSep_mono fun s _ => (show _ ⊢ (_ : sProp 𝕄) from ?_)
  unfold sendAny; iintro H; iexists f; iexact H
omit [FloatOps F] in
theorem recv_any (c : Dev nD) (f : Box F) :
    (((c : Thread nD τ).loc cc0_scratch1 ↦{fullShare} f : sProp 𝕄)) ⊢ bigSep Finset.univ fun s : Fin 9 => recvAny c s := by
  rw [recv_slots]
  refine bigSep_mono fun s _ => (show _ ⊢ (_ : sProp 𝕄) from ?_)
  unfold recvAny; iintro H; iexists f; iexact H

theorem entry_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = entry m c from rfl, scopedRest0_eq]
  unfold entry
  iintro ⟨Hs, -, ⟨%f, Hf⟩, ⟨%g, Hg⟩⟩
  isplitl [Hs]; · iexact Hs
  isplitl [Hf]
  · iapply (send_any c f); iexact Hf
  · iapply (recv_any c g); iexact Hg

theorem exit_elim (c : Dev nD) :
    (dats m ρ 0 c).Φ (Fin.last cfg0.N) ⊢ iprop(unscopedSems0 c ∗ ownSems c ∗ Pipeline.scopedRest cfg0.spec c) := by
  rw [show (dats m ρ 0 c).Φ (Fin.last cfg0.N) = exit m c from rfl, scopedRest0_eq, ownSems_eq, unscoped_eq]
  unfold exit done gotPts sentPts
  simp only [bigSep_sep']
  iintro ⟨HzB, HzV, Hg, HzS, Hs⟩
  isplitl [HzB]; · iexact HzB
  isplitl [HzS HzV]
  · isplitl [HzS] <;> iassumption
  isplitl [Hs]
  · iexists (sent (tiles m) c); iapply (Entails.of_eq (send_slots c _).symm); iexact Hs
  · iexists (got (tiles m) c); iapply (Entails.of_eq (recv_slots c _).symm); iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owed3) (howed₀ := fun _ => rfl) (howedN := fun _ => rfl)
    (L := L) (lv := lv) (hL := L_of_ne) (hwaits := waits m ρ)
    (G := dealt (tiles m)) (G' := ghosts (tiles m)) (u₀ := u₀)
    (hu₀ := by
      unfold u₀
      iintro Hu
      ihave H := (ownU_pair _ _) $$ Hu
      icases H with ⟨HP, HX⟩
      imod (mint (tiles m)) $$ HX with HG
      imodintro
      isplitl [HP] <;> iassumption)
    (hglob := deal (tiles m))
    (hA := fun _ _ => rfl) (hpf := fun _ k => k.elim0)
    (X := start m) (Y := fun c => unscopedSems0 c) (Z := fun _ => iprop(emp))
    (hX := start_intro m ρ) (hin := entry_intro m ρ) (hout := exit_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were. -/
theorem final_x (c : Dev nD) : finalA m ρ c (0 : Fin 3) = m ((c : Thread nD τ).loc main_arg0) := (dats m ρ 0 c).arrAt_in (0 : Fin 3) rfl _
theorem final_w (c : Dev nD) : finalA m ρ c (1 : Fin 3) = m ((c : Thread nD τ).loc main_arg1) := (dats m ρ 0 c).arrAt_in (1 : Fin 3) rfl _

end Cert.Cube

end
-- ==== Proof.Result.lean ====
/-
  What the program leaves in its result array, in closed form: the block that a device's one grid point copies out is the
  whole array, so the array ends at what the body left in the staging buffer. The two argument blocks staged are likewise
  the whole argument arrays.
-/
module

public import proofs.«01_k».proof.Proof.Launch

@[expose] public section

noncomputable section

namespace Cert.Cube

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

omit [FloatOps F] in
/-- The block of the first argument that is staged is the whole of it; -/
theorem tiles_eq (c : Dev nD) : tiles m c = m ((c : Thread nD τ).loc main_arg0) :=
  funext fun i => congrArg (m ((c : Thread nD τ).loc main_arg0)) (funext fun a => Fin.ext (by
    match a with
    | ⟨0, _⟩ => show 0 * 512 + 1 * (i 0).val = (i 0).val; omega
    | ⟨1, _⟩ => show 0 * 256 + 1 * (i 1).val = (i 1).val; omega))

omit [FloatOps F] in
/-- and so is that of the second. -/
theorem weight_eq (c : Dev nD) : weight m c = m ((c : Thread nD τ).loc main_arg1) :=
  funext fun i => congrArg (m ((c : Thread nD τ).loc main_arg1)) (funext fun a => Fin.ext (by
    match a with
    | ⟨0, _⟩ => show 0 * 256 + 1 * (i 0).val = (i 0).val; omega
    | ⟨1, _⟩ => show 0 * 256 + 1 * (i 1).val = (i 1).val; omega))

/-- An entry of the result's block is that entry of the array. -/
theorem out_emb (t : Fin cfg0.N) (i : S512x256.Idx) : ((cfg0.win 2).blk t).view.emb i = i := by
  obtain rfl := fin_N0 t
  exact funext fun a => Fin.ext (by
    match a with
    | ⟨0, _⟩ => show 0 * 512 + 1 * (i 0).val = (i 0).val; omega
    | ⟨1, _⟩ => show 0 * 256 + 1 * (i 1).val = (i 1).val; omega)

theorem flushed_eq (c : Dev nD) (t : Fin cfg0.N) :
    (dats m ρ 0 c).flushed 2 t = ((cfg0.win 2).blk t).view.read (Elt F) (result m c) :=
  funext fun i => (congrArg (result m c) (out_emb t i)).symm

theorem cover (i : S512x256.Idx) : ∃ t : Fin cfg0.N, (cfg0.win 2).flush t = true ∧ i ∈ ((cfg0.win 2).blk t).view.set :=
  ⟨t0_0, flush0_2 _, Finset.mem_map.mpr ⟨i, Finset.mem_univ _, out_emb t0_0 i⟩⟩

/-- The result array ends at what the device computed. -/
theorem final_out (c : Dev nD) : finalA m ρ c 2 = result m c :=
  (dats m ρ 0 c).arrAt_eq_of_cover 2 (result m c) (fun t _ => flushed_eq m ρ c t) cover

/-- Every run ends with each device's result array at what the device computed, its arguments as they were, and every
    counter at zero. -/
theorem run_result : θ_run defs (onTc (τ := τ) (main (F := F))) ⟨m, fun _ => 0, ρ⟩ (fun r =>
    (∀ c : Dev nD, r.2.mem ((c : Thread nD τ).loc main_v1) = outOf (fun d : Dev nD => m ((d : Thread nD τ).loc main_arg0)) (m ((c : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine (θ_run defs _ _).mono (fun r h => ⟨fun c => ⟨?_, (h.1 c 0).trans (final_x m ρ c), (h.1 c 1).trans (final_w m ρ c)⟩, h.2⟩) (run_main m ρ)
  refine (h.1 c 2).trans ((final_out m ρ c).trans ?_)
  unfold result
  rw [weight_eq, show tiles m = fun d : Dev nD => m ((d : Thread nD τ).loc main_arg0) from funext (tiles_eq m)]

end Cert.Cube

end
-- ==== Proof.Total.lean ====
/-
  Over the extended reals, where addition is associative and commutative, three rounds across three independent masks leave
  every device with the sum over all eight; so a device's result is that sum times the second operand, the same on every
  device.
-/
module

public import proofs.«01_k».proof.Proof.Contents
public import Idealize.ShloMosaic.Lib.Pointwise

@[expose] public section

set_option maxRecDepth 16384

noncomputable section

namespace Cert.Cube

open Cert.KernelIdeal Cert.KernelIdeal.Gen
open Idealize.ShloMosaic Idealize.ShloMosaic.TcCoe

/-- The eight devices reached from `c` by crossing each of the three masks or not, in whichever order the masks come, are all
    eight. -/
theorem sum_met (f : Dev nD → EReal) (g : Fin 3) (c : Dev nD) :
    ((f c + f (peer g c)) + (f (peer (1 + g) c) + f (peer g (peer (1 + g) c))))
      + ((f (peer (2 + g) c) + f (peer g (peer (2 + g) c)))
        + (f (peer (1 + g) (peer (2 + g) c)) + f (peer g (peer (1 + g) (peer (2 + g) c))))) = ∑ d : Dev nD, f d := by
  obtain ⟨a, rfl⟩ : ∃ a : Fin 8 → EReal, f = ![a 0, a 1, a 2, a 3, a 4, a 5, a 6, a 7] := ⟨f, by funext d; fin_cases d <;> rfl⟩
  refine Eq.trans ?_ (Fin.sum_univ_eight _).symm
  generalize a 0 = a0
  generalize a 1 = a1
  generalize a 2 = a2
  generalize a 3 = a3
  generalize a 4 = a4
  generalize a 5 = a5
  generalize a 6 = a6
  generalize a 7 = a7
  fin_cases g <;> fin_cases c <;> simp [peer] <;> ac_rfl

/-- After the third round a device has the sum over all eight. -/
theorem part_three (T : Tiles Ideal) (g : Fin 3) (c : Dev nD) (j : S512x256.Idx) :
    part T g 3 c j = ∑ d : Dev nD, (show EReal from T d j) := by
  refine Eq.trans ?_ (sum_met (fun d => T d j) g c)
  have h0 : Fin.ofNat 3 0 + g = g := by revert g; decide
  show ((T c j + T (peer (Fin.ofNat 3 0 + g) c) j) + (T (peer (Fin.ofNat 3 1 + g) c) j + T (peer (Fin.ofNat 3 0 + g) (peer (Fin.ofNat 3 1 + g) c)) j) : EReal)
    + ((T (peer (Fin.ofNat 3 2 + g) c) j + T (peer (Fin.ofNat 3 0 + g) (peer (Fin.ofNat 3 2 + g) c)) j)
      + (T (peer (Fin.ofNat 3 1 + g) (peer (Fin.ofNat 3 2 + g) c)) j + T (peer (Fin.ofNat 3 0 + g) (peer (Fin.ofNat 3 1 + g) (peer (Fin.ofNat 3 2 + g) c))) j)) = _
  rw [h0]
  rfl

/-- What the last round sent and received, added, in the plane the kernel loads. -/
theorem top_sum (T : Tiles Ideal) (c : Dev nD) (i : Fin 512) (k : Fin 256) :
    (show EReal from sent T c (ix3 (2 : Fin 3) i k)) + (show EReal from got T c (ix3 (2 : Fin 3) i k))
      = ∑ d : Dev nD, (show EReal from T d (ix2 i k)) := by
  rw [← part_three T (grp (slotOf (ix3 (2 : Fin 3) i k : S3x512x256.Idx))) c (ix2 i k)]
  have hu : under (ix3 (2 : Fin 3) i k : S3x512x256.Idx) = (ix2 i k : S512x256.Idx) := funext fun a => by fin_cases a <;> rfl
  have hr : rnd (slotOf (ix3 (2 : Fin 3) i k : S3x512x256.Idx)) = 2 := by
    apply Fin.ext; rw [rnd_slotOf]; rfl
  unfold got sent
  rw [hu]
  unfold mask
  rw [hr]
  rfl

/-- A device's result, entry by entry. -/
theorem outOf_apply (T : Tiles Ideal) (W : S256x256.Idx → Elt Ideal .bf16) (c : Dev nD) (i : Fin 512) (l : Fin 256) :
    outOf T W c (ix2 i l) = (∑ k : Fin 256, (∑ d : Dev nD, (show EReal from T d (ix2 i k))) * (show EReal from W (ix2 k l)) : EReal) := by
  unfold outOf
  pointwise [k0_pay13, k0_pay4]
  refine Finset.sum_congr rfl fun k _ => Ideal.mul_congr ?_ rfl
  refine Eq.trans ?_ (top_sum T c i k)
  refine Ideal.add_congr (congrArg (sent T c) ?_) (congrArg (got T c) ?_) <;>
    exact funext fun a => Fin.ext (by
      match a with
      | ⟨0, _⟩ => rfl
      | ⟨1, _⟩ => show 0 + 1 * i.val = i.val; omega
      | ⟨2, _⟩ => show 0 + 1 * k.val = k.val; omega)

end Cert.Cube

end
-- ==== Proof.Sum.lean ====
/-
  The reference over the extended reals, entry by entry: the eight blocks of rows of its first argument added, times its
  second.
-/
module

public import proofs.«01_k».proof.Proof.Gen.ReferenceIdeal.Run
public import Idealize.ShloMosaic.Lib.Pointwise

@[expose] public section

set_option maxRecDepth 16384

noncomputable section

namespace Cert.Cube.Reference

open Cert.ReferenceIdeal Cert.ReferenceIdeal.Gen
open Idealize.ShloMosaic Idealize.ShloMosaic.TcCoe

/-- What the reference computes of its two arguments. -/
def product (X : FVec Ideal S4096x256 .bf16) (W : FVec Ideal S256x256 .bf16) : FVec Ideal S512x256 .f32 :=
  extf .f32 (truncf .bf16 (Host.dotGeneral dot_S512x256_S256x256_S512x256_1_0_0_1_n_n none
    (truncf .bf16 (Host.reduceAdd (extf .f32 (shapeCast S8x512x256 X shapeCasts_S4096x256_S8x512x256) bitsLt_bf16_f32)
      (constant S_ .f32 0x00000000#32) reducesTo_S8x512x256_S512x256_d0 h_S_) bitsLt_bf16_f32) W) bitsLt_bf16_f32) bitsLt_bf16_f32

/-- An entry of it. -/
theorem product_apply (X : FVec Ideal S4096x256 .bf16) (W : FVec Ideal S256x256 .bf16) (i : Fin 512) (l : Fin 256) :
    product X W (ix2 i l)
      = ∑ k : Fin 256, (∑ d : Fin 8, X (ix2 (⟨d.val * 512 + i.val, by have := d.isLt; have := i.isLt; omega⟩ : Fin 4096) k)) * W (ix2 k l) := by
  pointwise [product]

end Cert.Cube.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Total
public import proofs.«01_k».proof.Proof.Sum
public import Idealize.ShloMosaic.Adequacy
public import Idealize.ShloMosaic.Init

@[expose] public section

noncomputable section

namespace Cert.Proof

open Idealize.ShloMosaic Idealize.SL.Sem Cert.Kernel

/-- `frame(KernelIdeal)`: every run ends with both arguments as they were and every counter at
    zero. -/
theorem frame_kernelIdeal : Cert.quiescent_KernelIdeal := fun m ρ _ =>
  (θ_run Cert.KernelIdeal.defs _ _).mono (fun _ h => ⟨fun c => (h.1 c).2, h.2⟩) (Cert.Cube.run_result (F := Ideal) m ρ)

/-- The two programs are one text, so their bodies are the same, label by label; -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig)) ?_
  funext l a
  match l, a with
  | 0, (t, s) => rfl
/-- and so are they with their pipelines. -/
theorem defs_eq : Cert.Kernel.defs (F := Bits) = Cert.KernelIdeal.defs (F := Bits) := congrArg (Pipeline.defs _) defs₀_eq

/-- `frame(Kernel)`: one run serves both programs. -/
theorem frame_kernel : Cert.quiescent_Kernel := fun m ρ _ => by
  rw [defs_eq]
  exact (θ_run Cert.KernelIdeal.defs _ _).mono (fun _ h => ⟨fun c => (h.1 c).2, h.2⟩) (Cert.Cube.run_result (F := Bits) m ρ)

/-- `frame(ReferenceIdeal)`: no operation writes an argument, and the program has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With its blocks of the reference's first argument and the reference's second, a device computes the reference's result. -/
theorem out_eq (X : FVec Ideal Cert.ReferenceIdeal.S4096x256 .bf16) (W : FVec Ideal Cert.ReferenceIdeal.S256x256 .bf16)
    (c : Dev Cert.KernelIdeal.nD) :
    Cert.Cube.outOf (F := Ideal) (fun d : Dev Cert.KernelIdeal.nD => Layout.block ⟨2, ![512, 256]⟩ ⟨2, ![4096, 256]⟩ 0 8 d X) W c
      = Cert.Cube.Reference.product X W := funext fun j => by
  rw [eq_ix2 j]
  refine (Cert.Cube.outOf_apply _ W c (j 0) (j 1)).trans ((Cert.Cube.Reference.product_apply X W (j 0) (j 1)).trans ?_).symm
  refine Finset.sum_congr rfl fun k _ => congrArg (· * _) (Finset.sum_congr rfl fun d _ => congrArg X ?_)
  exact funext fun a => Fin.ext (by match a with | ⟨0, _⟩ => rfl | ⟨1, _⟩ => rfl)

/-- `algebraic(KernelIdeal, ReferenceIdeal)`: on every device the result is the reference's. -/
theorem algebraic : Cert.algebraic_KernelIdeal_ReferenceIdeal := fun m ρ m' ρ' _ hm => by
  refine ⟨Cert.Cube.Reference.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (Cert.Cube.run_result (F := Ideal) m ρ)
    refine Eq.trans ?_ (out_eq _ _ c)
    exact congrArg₂ (fun T W => Cert.Cube.outOf (F := Ideal) T W c) (funext fun d => (hm d).1) (hm c).2
  · exact (θ_run Cert.ReferenceIdeal.defs _ _).mono (fun r h => h 0) (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
